-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S128x520 : Shape := ⟨2, ![128, 520]⟩
abbrev S520 : Shape := ⟨1, ![520]⟩
abbrev S128x8x65 : Shape := ⟨3, ![128, 8, 65]⟩
abbrev S128x8x32 : Shape := ⟨3, ![128, 8, 32]⟩
abbrev S128x256 : Shape := ⟨2, ![128, 256]⟩
abbrev S128x8x1 : Shape := ⟨3, ![128, 8, 1]⟩
abbrev S128x8 : Shape := ⟨2, ![128, 8]⟩
abbrev S8x65 : Shape := ⟨2, ![8, 65]⟩
abbrev S8x32 : Shape := ⟨2, ![8, 32]⟩
abbrev S256 : Shape := ⟨1, ![256]⟩
abbrev S8x1 : Shape := ⟨2, ![8, 1]⟩
abbrev S8 : Shape := ⟨1, ![8]⟩
abbrev S1x520 : Shape := ⟨2, ![1, 520]⟩
abbrev S_ : Shape := ⟨0, ![]⟩
abbrev S1 : Shape := ⟨1, ![1]⟩
abbrev S2 : Shape := ⟨1, ![2]⟩
abbrev S1x1 : Shape := ⟨2, ![1, 1]⟩
abbrev S16384x8 : Shape := ⟨2, ![16384, 8]⟩
abbrev S16384x32 : Shape := ⟨2, ![16384, 32]⟩
abbrev S4096x128 : Shape := ⟨2, ![4096, 128]⟩
abbrev S4096x8 : Shape := ⟨2, ![4096, 8]⟩
abbrev S4096x32 : Shape := ⟨2, ![4096, 32]⟩
abbrev S4096x520 : Shape := ⟨2, ![4096, 520]⟩
abbrev S4096 : Shape := ⟨1, ![4096]⟩
abbrev S4096x1 : Shape := ⟨2, ![4096, 1]⟩
abbrev S4096x256 : Shape := ⟨2, ![4096, 256]⟩
abbrev S4096x64 : Shape := ⟨2, ![4096, 64]⟩

abbrev nBuf : Space → Nat
  | .hbm => 299
  | .vmem => 10
  | .smem => 0
  | _ => 0

abbrev hbmTy0_0 (i : Nat) : BufTy := match i % 128 with
  | 0 => ⟨S16384x128, .f32⟩
  | 1 => ⟨S128x520, .f32⟩
  | 2 => ⟨S520, .f32⟩
  | 3 => ⟨S128x8x65, .f32⟩
  | 4 => ⟨S128x8x32, .f32⟩
  | 5 => ⟨S128x256, .f32⟩
  | 6 => ⟨S128x8x32, .f32⟩
  | 7 => ⟨S128x256, .f32⟩
  | 8 => ⟨S128x8x1, .f32⟩
  | 9 => ⟨S128x8, .f32⟩
  | 10 => ⟨S128x520, .f32⟩
  | 11 => ⟨S8x65, .f32⟩
  | 12 => ⟨S8x32, .f32⟩
  | 13 => ⟨S256, .f32⟩
  | 14 => ⟨S8x32, .f32⟩
  | 15 => ⟨S256, .f32⟩
  | 16 => ⟨S8x1, .f32⟩
  | 17 => ⟨S8, .f32⟩
  | 18 => ⟨S520, .f32⟩
  | 19 => ⟨S1x520, .f32⟩
  | 20 => ⟨S_, .i32⟩
  | 21 => ⟨S_, .i32⟩
  | 22 => ⟨S_, .i32⟩
  | 23 => ⟨S_, .i32⟩
  | 24 => ⟨S1, .i32⟩
  | 25 => ⟨S_, .i32⟩
  | 26 => ⟨S_, .i32⟩
  | 27 => ⟨S_, .i32⟩
  | 28 => ⟨S1, .i32⟩
  | 29 => ⟨S2, .i32⟩
  | 30 => ⟨S_, .f32⟩
  | 31 => ⟨S_, .f32⟩
  | 32 => ⟨S_, .f32⟩
  | 33 => ⟨S1x1, .f32⟩
  | 34 => ⟨S1x1, .f32⟩
  | 35 => ⟨S1, .i32⟩
  | 36 => ⟨S_, .i32⟩
  | 37 => ⟨S1, .i32⟩
  | 38 => ⟨S_, .i32⟩
  | 39 => ⟨S16384x8, .i64⟩
  | 40 => ⟨S16384x8, .i64⟩
  | 41 => ⟨S_, .i64⟩
  | 42 => ⟨S16384x8, .i64⟩
  | 43 => ⟨S16384x8, .i64⟩
  | 44 => ⟨S_, .i64⟩
  | 45 => ⟨S16384x8, .i64⟩
  | 46 => ⟨S16384x8, .i64⟩
  | 47 => ⟨S16384x8, .i64⟩
  | 48 => ⟨S_, .i64⟩
  | 49 => ⟨S16384x8, .i64⟩
  | 50 => ⟨S16384x8, .i64⟩
  | 51 => ⟨S16384x8, .i32⟩
  | 52 => ⟨S16384x8, .i32⟩
  | 53 => ⟨S_, .i32⟩
  | 54 => ⟨S_, .i32⟩
  | 55 => ⟨S_, .i32⟩
  | 56 => ⟨S16384x8, .i32⟩
  | 57 => ⟨S16384x8, .i32⟩
  | 58 => ⟨S16384x8, .i32⟩
  | 59 => ⟨S16384x8, .i32⟩
  | 60 => ⟨S16384x8, .i32⟩
  | 61 => ⟨S_, .i32⟩
  | 62 => ⟨S16384x8, .i32⟩
  | 63 => ⟨S16384x8, .i32⟩
  | 64 => ⟨S_, .i32⟩
  | 65 => ⟨S16384x8, .i32⟩
  | 66 => ⟨S16384x8, .i32⟩
  | 67 => ⟨S16384x8, .i32⟩
  | 68 => ⟨S16384x8, .i32⟩
  | 69 => ⟨S16384x8, .i32⟩
  | 70 => ⟨S_, .i32⟩
  | 71 => ⟨S16384x8, .i32⟩
  | 72 => ⟨S16384x8, .i32⟩
  | 73 => ⟨S_, .i32⟩
  | 74 => ⟨S16384x8, .i32⟩
  | 75 => ⟨S16384x8, .i32⟩
  | 76 => ⟨S16384x8, .i32⟩
  | 77 => ⟨S16384x8, .i32⟩
  | 78 => ⟨S16384x8, .i32⟩
  | 79 => ⟨S_, .i32⟩
  | 80 => ⟨S16384x8, .i32⟩
  | 81 => ⟨S16384x8, .i32⟩
  | 82 => ⟨S_, .i32⟩
  | 83 => ⟨S16384x8, .i32⟩
  | 84 => ⟨S16384x8, .i32⟩
  | 85 => ⟨S16384x8, .i32⟩
  | 86 => ⟨S16384x8, .i32⟩
  | 87 => ⟨S16384x8, .i32⟩
  | 88 => ⟨S_, .i32⟩
  | 89 => ⟨S16384x8, .i32⟩
  | 90 => ⟨S16384x8, .i32⟩
  | 91 => ⟨S_, .i32⟩
  | 92 => ⟨S16384x8, .i32⟩
  | 93 => ⟨S16384x8, .i32⟩
  | 94 => ⟨S16384x8, .i32⟩
  | 95 => ⟨S16384x8, .i32⟩
  | 96 => ⟨S16384x8, .i32⟩
  | 97 => ⟨S16384x8, .i32⟩
  | 98 => ⟨S16384x8, .i32⟩
  | 99 => ⟨S16384x8, .i32⟩
  | 100 => ⟨S_, .i32⟩
  | 101 => ⟨S16384x8, .i32⟩
  | 102 => ⟨S16384x8, .i32⟩
  | 103 => ⟨S16384x8, .i32⟩
  | 104 => ⟨S_, .i32⟩
  | 105 => ⟨S16384x8, .i32⟩
  | 106 => ⟨S16384x8, .i32⟩
  | 107 => ⟨S_, .i32⟩
  | 108 => ⟨S16384x8, .i32⟩
  | 109 => ⟨S16384x8, .i32⟩
  | 110 => ⟨S16384x8, .i32⟩
  | 111 => ⟨S16384x8, .i32⟩
  | 112 => ⟨S16384x8, .i32⟩
  | 113 => ⟨S_, .i32⟩
  | 114 => ⟨S16384x8, .i32⟩
  | 115 => ⟨S16384x8, .i32⟩
  | 116 => ⟨S_, .i32⟩
  | 117 => ⟨S16384x8, .i32⟩
  | 118 => ⟨S16384x8, .i32⟩
  | 119 => ⟨S16384x8, .i32⟩
  | 120 => ⟨S16384x8, .i32⟩
  | 121 => ⟨S16384x8, .i32⟩
  | 122 => ⟨S_, .i32⟩
  | 123 => ⟨S16384x8, .i32⟩
  | 124 => ⟨S16384x8, .i32⟩
  | 125 => ⟨S_, .i32⟩
  | 126 => ⟨S16384x8, .i32⟩
  | 127 => ⟨S16384x8, .i32⟩
  | _ => ⟨S16384x128, .f32⟩

abbrev hbmTy0_1 (i : Nat) : BufTy := match i % 128 with
  | 0 => ⟨S16384x8, .i32⟩
  | 1 => ⟨S16384x8, .i32⟩
  | 2 => ⟨S16384x8, .i32⟩
  | 3 => ⟨S_, .i32⟩
  | 4 => ⟨S16384x8, .i32⟩
  | 5 => ⟨S16384x8, .i32⟩
  | 6 => ⟨S_, .i32⟩
  | 7 => ⟨S16384x8, .i32⟩
  | 8 => ⟨S16384x8, .i32⟩
  | 9 => ⟨S16384x8, .i32⟩
  | 10 => ⟨S16384x8, .i32⟩
  | 11 => ⟨S16384x8, .i32⟩
  | 12 => ⟨S16384x8, .i32⟩
  | 13 => ⟨S16384x8, .i32⟩
  | 14 => ⟨S16384x8, .i32⟩
  | 15 => ⟨S_, .i32⟩
  | 16 => ⟨S16384x8, .i32⟩
  | 17 => ⟨S16384x8, .i32⟩
  | 18 => ⟨S16384x8, .i32⟩
  | 19 => ⟨S_, .i32⟩
  | 20 => ⟨S16384x8, .i32⟩
  | 21 => ⟨S16384x8, .i32⟩
  | 22 => ⟨S_, .i32⟩
  | 23 => ⟨S16384x8, .i32⟩
  | 24 => ⟨S16384x8, .i32⟩
  | 25 => ⟨S16384x8, .i32⟩
  | 26 => ⟨S16384x8, .i32⟩
  | 27 => ⟨S16384x8, .i32⟩
  | 28 => ⟨S_, .i32⟩
  | 29 => ⟨S16384x8, .i32⟩
  | 30 => ⟨S16384x8, .i32⟩
  | 31 => ⟨S_, .i32⟩
  | 32 => ⟨S16384x8, .i32⟩
  | 33 => ⟨S16384x8, .i32⟩
  | 34 => ⟨S16384x8, .i32⟩
  | 35 => ⟨S16384x8, .i32⟩
  | 36 => ⟨S16384x8, .i32⟩
  | 37 => ⟨S_, .i32⟩
  | 38 => ⟨S16384x8, .i32⟩
  | 39 => ⟨S16384x8, .i32⟩
  | 40 => ⟨S_, .i32⟩
  | 41 => ⟨S16384x8, .i32⟩
  | 42 => ⟨S16384x8, .i32⟩
  | 43 => ⟨S16384x8, .i32⟩
  | 44 => ⟨S16384x8, .i32⟩
  | 45 => ⟨S16384x8, .i32⟩
  | 46 => ⟨S_, .i32⟩
  | 47 => ⟨S16384x8, .i32⟩
  | 48 => ⟨S16384x8, .i32⟩
  | 49 => ⟨S_, .i32⟩
  | 50 => ⟨S16384x8, .i32⟩
  | 51 => ⟨S16384x8, .i32⟩
  | 52 => ⟨S16384x8, .i32⟩
  | 53 => ⟨S16384x8, .i32⟩
  | 54 => ⟨S16384x8, .i32⟩
  | 55 => ⟨S16384x8, .i32⟩
  | 56 => ⟨S16384x8, .i32⟩
  | 57 => ⟨S16384x8, .i32⟩
  | 58 => ⟨S_, .i32⟩
  | 59 => ⟨S16384x8, .i32⟩
  | 60 => ⟨S16384x8, .i32⟩
  | 61 => ⟨S16384x8, .i32⟩
  | 62 => ⟨S_, .i32⟩
  | 63 => ⟨S16384x8, .i32⟩
  | 64 => ⟨S16384x8, .i32⟩
  | 65 => ⟨S_, .i32⟩
  | 66 => ⟨S16384x8, .i32⟩
  | 67 => ⟨S16384x8, .i32⟩
  | 68 => ⟨S16384x8, .i32⟩
  | 69 => ⟨S16384x8, .i32⟩
  | 70 => ⟨S16384x8, .i32⟩
  | 71 => ⟨S_, .i32⟩
  | 72 => ⟨S16384x8, .i32⟩
  | 73 => ⟨S16384x8, .i32⟩
  | 74 => ⟨S_, .i32⟩
  | 75 => ⟨S16384x8, .i32⟩
  | 76 => ⟨S16384x8, .i32⟩
  | 77 => ⟨S16384x8, .i32⟩
  | 78 => ⟨S16384x8, .i32⟩
  | 79 => ⟨S16384x8, .i32⟩
  | 80 => ⟨S_, .i32⟩
  | 81 => ⟨S16384x8, .i32⟩
  | 82 => ⟨S16384x8, .i32⟩
  | 83 => ⟨S_, .i32⟩
  | 84 => ⟨S16384x8, .i32⟩
  | 85 => ⟨S16384x8, .i32⟩
  | 86 => ⟨S16384x8, .i32⟩
  | 87 => ⟨S16384x8, .i32⟩
  | 88 => ⟨S16384x8, .i32⟩
  | 89 => ⟨S_, .i32⟩
  | 90 => ⟨S16384x8, .i32⟩
  | 91 => ⟨S16384x8, .i32⟩
  | 92 => ⟨S_, .i32⟩
  | 93 => ⟨S16384x8, .i32⟩
  | 94 => ⟨S16384x8, .i32⟩
  | 95 => ⟨S16384x8, .i32⟩
  | 96 => ⟨S16384x8, .i32⟩
  | 97 => ⟨S16384x8, .i32⟩
  | 98 => ⟨S16384x8, .i32⟩
  | 99 => ⟨S16384x8, .i32⟩
  | 100 => ⟨S16384x8, .i32⟩
  | 101 => ⟨S_, .i32⟩
  | 102 => ⟨S16384x8, .i32⟩
  | 103 => ⟨S16384x8, .i32⟩
  | 104 => ⟨S16384x8, .i32⟩
  | 105 => ⟨S_, .i32⟩
  | 106 => ⟨S16384x8, .i32⟩
  | 107 => ⟨S16384x8, .i32⟩
  | 108 => ⟨S_, .i32⟩
  | 109 => ⟨S16384x8, .i32⟩
  | 110 => ⟨S16384x8, .i32⟩
  | 111 => ⟨S16384x8, .i32⟩
  | 112 => ⟨S16384x8, .i32⟩
  | 113 => ⟨S16384x8, .i32⟩
  | 114 => ⟨S_, .i32⟩
  | 115 => ⟨S16384x8, .i32⟩
  | 116 => ⟨S16384x8, .i32⟩
  | 117 => ⟨S_, .i32⟩
  | 118 => ⟨S16384x8, .i32⟩
  | 119 => ⟨S16384x8, .i32⟩
  | 120 => ⟨S16384x8, .i32⟩
  | 121 => ⟨S16384x8, .i32⟩
  | 122 => ⟨S16384x8, .i32⟩
  | 123 => ⟨S_, .i32⟩
  | 124 => ⟨S16384x8, .i32⟩
  | 125 => ⟨S16384x8, .i32⟩
  | 126 => ⟨S_, .i32⟩
  | 127 => ⟨S16384x8, .i32⟩
  | _ => ⟨S16384x128, .f32⟩

abbrev hbmTy0_2 (i : Nat) : BufTy := match i % 128 with
  | 0 => ⟨S16384x8, .i32⟩
  | 1 => ⟨S16384x8, .i32⟩
  | 2 => ⟨S16384x8, .i32⟩
  | 3 => ⟨S16384x8, .i32⟩
  | 4 => ⟨S_, .i32⟩
  | 5 => ⟨S16384x8, .i32⟩
  | 6 => ⟨S16384x8, .i32⟩
  | 7 => ⟨S_, .i32⟩
  | 8 => ⟨S16384x8, .i32⟩
  | 9 => ⟨S16384x8, .i32⟩
  | 10 => ⟨S16384x8, .i32⟩
  | 11 => ⟨S16384x8, .i32⟩
  | 12 => ⟨S16384x8, .i32⟩
  | 13 => ⟨S16384x8, .i32⟩
  | 14 => ⟨S16384x8, .i32⟩
  | 15 => ⟨S16384x8, .i32⟩
  | 16 => ⟨S_, .i32⟩
  | 17 => ⟨S16384x8, .i32⟩
  | 18 => ⟨S16384x8, .i32⟩
  | 19 => ⟨S16384x8, .i32⟩
  | 20 => ⟨S_, .i32⟩
  | 21 => ⟨S16384x8, .i32⟩
  | 22 => ⟨S16384x8, .i32⟩
  | 23 => ⟨S_, .i32⟩
  | 24 => ⟨S16384x8, .i32⟩
  | 25 => ⟨S16384x8, .i32⟩
  | 26 => ⟨S16384x8, .f32⟩
  | 27 => ⟨S_, .f32⟩
  | 28 => ⟨S16384x8, .f32⟩
  | 29 => ⟨S16384x8, .f32⟩
  | 30 => ⟨S1x1, .f32⟩
  | 31 => ⟨S16384x8, .f32⟩
  | 32 => ⟨S16384x8, .f32⟩
  | 33 => ⟨S16384x8, .f32⟩
  | 34 => ⟨S16384x8, .f32⟩
  | 35 => ⟨S16384x8, .f32⟩
  | 36 => ⟨S16384x8, .f32⟩
  | 37 => ⟨S16384x8, .f32⟩
  | 38 => ⟨S16384x8, .f32⟩
  | 39 => ⟨S16384x8, .f32⟩
  | 40 => ⟨S16384x8, .f32⟩
  | 41 => ⟨S16384x32, .f32⟩
  | 42 => ⟨S16384x32, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x520, .f32⟩
  | .local _ .vmem, ⟨3, _⟩ => ⟨S1x520, .f32⟩
  | .local _ .vmem, ⟨4, _⟩ => ⟨S4096x8, .f32⟩
  | .local _ .vmem, ⟨5, _⟩ => ⟨S4096x8, .f32⟩
  | .local _ .vmem, ⟨6, _⟩ => ⟨S4096x32, .f32⟩
  | .local _ .vmem, ⟨7, _⟩ => ⟨S4096x32, .f32⟩
  | .local _ .vmem, ⟨8, _⟩ => ⟨S4096x32, .f32⟩
  | .local _ .vmem, ⟨9, _⟩ => ⟨S4096x32, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_cst : Ref sig .tc := ⟨.hbm, 30, rfl⟩
abbrev main_call0_cst_0 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_c_0 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_1 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_call0_v0 : Ref sig .tc := ⟨.hbm, 53, rfl⟩
abbrev main_call0_call0_call0_c : Ref sig .tc := ⟨.hbm, 54, rfl⟩
abbrev main_call0_call0_call0_v1 : Ref sig .tc := ⟨.hbm, 55, rfl⟩
abbrev main_call0_call0_call0_v2 : Ref sig .tc := ⟨.hbm, 56, rfl⟩
abbrev main_call0_call0_call0_v3 : Ref sig .tc := ⟨.hbm, 57, rfl⟩
abbrev main_call0_call0_call0_v4 : Ref sig .tc := ⟨.hbm, 58, rfl⟩
abbrev main_call0_call0_call0_v5 : Ref sig .tc := ⟨.hbm, 59, rfl⟩
abbrev main_call0_call0_call0_v6 : Ref sig .tc := ⟨.hbm, 60, rfl⟩
abbrev main_call0_call0_call0_c_0 : Ref sig .tc := ⟨.hbm, 61, rfl⟩
abbrev main_call0_call0_call0_v7 : Ref sig .tc := ⟨.hbm, 62, rfl⟩
abbrev main_call0_call0_call0_v8 : Ref sig .tc := ⟨.hbm, 63, rfl⟩
abbrev main_call0_call0_call0_c_1 : Ref sig .tc := ⟨.hbm, 64, rfl⟩
abbrev main_call0_call0_call0_v9 : Ref sig .tc := ⟨.hbm, 65, rfl⟩
abbrev main_call0_call0_call0_v10 : Ref sig .tc := ⟨.hbm, 66, rfl⟩
abbrev main_call0_call0_call0_v11 : Ref sig .tc := ⟨.hbm, 67, rfl⟩
abbrev main_call0_call0_call0_v12 : Ref sig .tc := ⟨.hbm, 68, rfl⟩
abbrev main_call0_call0_call0_v13 : Ref sig .tc := ⟨.hbm, 69, rfl⟩
abbrev main_call0_call0_call0_c_2 : Ref sig .tc := ⟨.hbm, 70, rfl⟩
abbrev main_call0_call0_call0_v14 : Ref sig .tc := ⟨.hbm, 71, rfl⟩
abbrev main_call0_call0_call0_v15 : Ref sig .tc := ⟨.hbm, 72, rfl⟩
abbrev main_call0_call0_call0_c_3 : Ref sig .tc := ⟨.hbm, 73, rfl⟩
abbrev main_call0_call0_call0_v16 : Ref sig .tc := ⟨.hbm, 74, rfl⟩
abbrev main_call0_call0_call0_v17 : Ref sig .tc := ⟨.hbm, 75, rfl⟩
abbrev main_call0_call0_call0_v18 : Ref sig .tc := ⟨.hbm, 76, rfl⟩
abbrev main_call0_call0_call0_v19 : Ref sig .tc := ⟨.hbm, 77, rfl⟩
abbrev main_call0_call0_call0_v20 : Ref sig .tc := ⟨.hbm, 78, rfl⟩
abbrev main_call0_call0_call0_c_4 : Ref sig .tc := ⟨.hbm, 79, rfl⟩
abbrev main_call0_call0_call0_v21 : Ref sig .tc := ⟨.hbm, 80, rfl⟩
abbrev main_call0_call0_call0_v22 : Ref sig .tc := ⟨.hbm, 81, rfl⟩
abbrev main_call0_call0_call0_c_5 : Ref sig .tc := ⟨.hbm, 82, rfl⟩
abbrev main_call0_call0_call0_v23 : Ref sig .tc := ⟨.hbm, 83, rfl⟩
abbrev main_call0_call0_call0_v24 : Ref sig .tc := ⟨.hbm, 84, rfl⟩
abbrev main_call0_call0_call0_v25 : Ref sig .tc := ⟨.hbm, 85, rfl⟩
abbrev main_call0_call0_call0_v26 : Ref sig .tc := ⟨.hbm, 86, rfl⟩
abbrev main_call0_call0_call0_v27 : Ref sig .tc := ⟨.hbm, 87, rfl⟩
abbrev main_call0_call0_call0_c_6 : Ref sig .tc := ⟨.hbm, 88, rfl⟩
abbrev main_call0_call0_call0_v28 : Ref sig .tc := ⟨.hbm, 89, rfl⟩
abbrev main_call0_call0_call0_v29 : Ref sig .tc := ⟨.hbm, 90, rfl⟩
abbrev main_call0_call0_call0_c_7 : Ref sig .tc := ⟨.hbm, 91, rfl⟩
abbrev main_call0_call0_call0_v30 : Ref sig .tc := ⟨.hbm, 92, rfl⟩
abbrev main_call0_call0_call0_v31 : Ref sig .tc := ⟨.hbm, 93, rfl⟩
abbrev main_call0_call0_call0_v32 : Ref sig .tc := ⟨.hbm, 94, rfl⟩
abbrev main_call0_call0_call0_v33 : Ref sig .tc := ⟨.hbm, 95, rfl⟩
abbrev main_call0_call0_call0_v34 : Ref sig .tc := ⟨.hbm, 96, rfl⟩
abbrev main_call0_call0_call0_v35 : Ref sig .tc := ⟨.hbm, 97, rfl⟩
abbrev main_call0_call0_call0_v36 : Ref sig .tc := ⟨.hbm, 98, rfl⟩
abbrev main_call0_call0_call0_v37 : Ref sig .tc := ⟨.hbm, 99, rfl⟩
abbrev main_call0_call0_call0_c_8 : Ref sig .tc := ⟨.hbm, 100, rfl⟩
abbrev main_call0_call0_call0_v38 : Ref sig .tc := ⟨.hbm, 101, rfl⟩
abbrev main_call0_call0_call0_v39 : Ref sig .tc := ⟨.hbm, 102, rfl⟩
abbrev main_call0_call0_call0_v40 : Ref sig .tc := ⟨.hbm, 103, rfl⟩
abbrev main_call0_call0_call0_c_9 : Ref sig .tc := ⟨.hbm, 104, rfl⟩
abbrev main_call0_call0_call0_v41 : Ref sig .tc := ⟨.hbm, 105, rfl⟩
abbrev main_call0_call0_call0_v42 : Ref sig .tc := ⟨.hbm, 106, rfl⟩
abbrev main_call0_call0_call0_c_10 : Ref sig .tc := ⟨.hbm, 107, rfl⟩
abbrev main_call0_call0_call0_v43 : Ref sig .tc := ⟨.hbm, 108, rfl⟩
abbrev main_call0_call0_call0_v44 : Ref sig .tc := ⟨.hbm, 109, rfl⟩
abbrev main_call0_call0_call0_v45 : Ref sig .tc := ⟨.hbm, 110, rfl⟩
abbrev main_call0_call0_call0_v46 : Ref sig .tc := ⟨.hbm, 111, rfl⟩
abbrev main_call0_call0_call0_v47 : Ref sig .tc := ⟨.hbm, 112, rfl⟩
abbrev main_call0_call0_call0_c_11 : Ref sig .tc := ⟨.hbm, 113, rfl⟩
abbrev main_call0_call0_call0_v48 : Ref sig .tc := ⟨.hbm, 114, rfl⟩
abbrev main_call0_call0_call0_v49 : Ref sig .tc := ⟨.hbm, 115, rfl⟩
abbrev main_call0_call0_call0_c_12 : Ref sig .tc := ⟨.hbm, 116, rfl⟩
abbrev main_call0_call0_call0_v50 : Ref sig .tc := ⟨.hbm, 117, rfl⟩
abbrev main_call0_call0_call0_v51 : Ref sig .tc := ⟨.hbm, 118, rfl⟩
abbrev main_call0_call0_call0_v52 : Ref sig .tc := ⟨.hbm, 119, rfl⟩
abbrev main_call0_call0_call0_v53 : Ref sig .tc := ⟨.hbm, 120, rfl⟩
abbrev main_call0_call0_call0_v54 : Ref sig .tc := ⟨.hbm, 121, rfl⟩
abbrev main_call0_call0_call0_c_13 : Ref sig .tc := ⟨.hbm, 122, rfl⟩
abbrev main_call0_call0_call0_v55 : Ref sig .tc := ⟨.hbm, 123, rfl⟩
abbrev main_call0_call0_call0_v56 : Ref sig .tc := ⟨.hbm, 124, rfl⟩
abbrev main_call0_call0_call0_c_14 : Ref sig .tc := ⟨.hbm, 125, rfl⟩
abbrev main_call0_call0_call0_v57 : Ref sig .tc := ⟨.hbm, 126, rfl⟩
abbrev main_call0_call0_call0_v58 : Ref sig .tc := ⟨.hbm, 127, rfl⟩
abbrev main_call0_call0_call0_v59 : Ref sig .tc := ⟨.hbm, 128, rfl⟩
abbrev main_call0_call0_call0_v60 : Ref sig .tc := ⟨.hbm, 129, rfl⟩
abbrev main_call0_call0_call0_v61 : Ref sig .tc := ⟨.hbm, 130, rfl⟩
abbrev main_call0_call0_call0_c_15 : Ref sig .tc := ⟨.hbm, 131, rfl⟩
abbrev main_call0_call0_call0_v62 : Ref sig .tc := ⟨.hbm, 132, rfl⟩
abbrev main_call0_call0_call0_v63 : Ref sig .tc := ⟨.hbm, 133, rfl⟩
abbrev main_call0_call0_call0_c_16 : Ref sig .tc := ⟨.hbm, 134, rfl⟩
abbrev main_call0_call0_call0_v64 : Ref sig .tc := ⟨.hbm, 135, rfl⟩
abbrev main_call0_call0_call0_v65 : Ref sig .tc := ⟨.hbm, 136, rfl⟩
abbrev main_call0_call0_call0_v66 : Ref sig .tc := ⟨.hbm, 137, rfl⟩
abbrev main_call0_call0_call0_v67 : Ref sig .tc := ⟨.hbm, 138, rfl⟩
abbrev main_call0_call0_call0_v68 : Ref sig .tc := ⟨.hbm, 139, rfl⟩
abbrev main_call0_call0_call0_v69 : Ref sig .tc := ⟨.hbm, 140, rfl⟩
abbrev main_call0_call0_call0_v70 : Ref sig .tc := ⟨.hbm, 141, rfl⟩
abbrev main_call0_call0_call0_v71 : Ref sig .tc := ⟨.hbm, 142, rfl⟩
abbrev main_call0_call0_call0_c_17 : Ref sig .tc := ⟨.hbm, 143, rfl⟩
abbrev main_call0_call0_call0_v72 : Ref sig .tc := ⟨.hbm, 144, rfl⟩
abbrev main_call0_call0_call0_v73 : Ref sig .tc := ⟨.hbm, 145, rfl⟩
abbrev main_call0_call0_call0_v74 : Ref sig .tc := ⟨.hbm, 146, rfl⟩
abbrev main_call0_call0_call0_c_18 : Ref sig .tc := ⟨.hbm, 147, rfl⟩
abbrev main_call0_call0_call0_v75 : Ref sig .tc := ⟨.hbm, 148, rfl⟩
abbrev main_call0_call0_call0_v76 : Ref sig .tc := ⟨.hbm, 149, rfl⟩
abbrev main_call0_call0_call0_c_19 : Ref sig .tc := ⟨.hbm, 150, rfl⟩
abbrev main_call0_call0_call0_v77 : Ref sig .tc := ⟨.hbm, 151, rfl⟩
abbrev main_call0_call0_call0_v78 : Ref sig .tc := ⟨.hbm, 152, rfl⟩
abbrev main_call0_call0_call0_v79 : Ref sig .tc := ⟨.hbm, 153, rfl⟩
abbrev main_call0_call0_call0_v80 : Ref sig .tc := ⟨.hbm, 154, rfl⟩
abbrev main_call0_call0_call0_v81 : Ref sig .tc := ⟨.hbm, 155, rfl⟩
abbrev main_call0_call0_call0_c_20 : Ref sig .tc := ⟨.hbm, 156, rfl⟩
abbrev main_call0_call0_call0_v82 : Ref sig .tc := ⟨.hbm, 157, rfl⟩
abbrev main_call0_call0_call0_v83 : Ref sig .tc := ⟨.hbm, 158, rfl⟩
abbrev main_call0_call0_call0_c_21 : Ref sig .tc := ⟨.hbm, 159, rfl⟩
abbrev main_call0_call0_call0_v84 : Ref sig .tc := ⟨.hbm, 160, rfl⟩
abbrev main_call0_call0_call0_v85 : Ref sig .tc := ⟨.hbm, 161, rfl⟩
abbrev main_call0_call0_call0_v86 : Ref sig .tc := ⟨.hbm, 162, rfl⟩
abbrev main_call0_call0_call0_v87 : Ref sig .tc := ⟨.hbm, 163, rfl⟩
abbrev main_call0_call0_call0_v88 : Ref sig .tc := ⟨.hbm, 164, rfl⟩
abbrev main_call0_call0_call0_c_22 : Ref sig .tc := ⟨.hbm, 165, rfl⟩
abbrev main_call0_call0_call0_v89 : Ref sig .tc := ⟨.hbm, 166, rfl⟩
abbrev main_call0_call0_call0_v90 : Ref sig .tc := ⟨.hbm, 167, rfl⟩
abbrev main_call0_call0_call0_c_23 : Ref sig .tc := ⟨.hbm, 168, rfl⟩
abbrev main_call0_call0_call0_v91 : Ref sig .tc := ⟨.hbm, 169, rfl⟩
abbrev main_call0_call0_call0_v92 : Ref sig .tc := ⟨.hbm, 170, rfl⟩
abbrev main_call0_call0_call0_v93 : Ref sig .tc := ⟨.hbm, 171, rfl⟩
abbrev main_call0_call0_call0_v94 : Ref sig .tc := ⟨.hbm, 172, rfl⟩
abbrev main_call0_call0_call0_v95 : Ref sig .tc := ⟨.hbm, 173, rfl⟩
abbrev main_call0_call0_call0_c_24 : Ref sig .tc := ⟨.hbm, 174, rfl⟩
abbrev main_call0_call0_call0_v96 : Ref sig .tc := ⟨.hbm, 175, rfl⟩
abbrev main_call0_call0_call0_v97 : Ref sig .tc := ⟨.hbm, 176, rfl⟩
abbrev main_call0_call0_call0_c_25 : Ref sig .tc := ⟨.hbm, 177, rfl⟩
abbrev main_call0_call0_call0_v98 : Ref sig .tc := ⟨.hbm, 178, rfl⟩
abbrev main_call0_call0_call0_v99 : Ref sig .tc := ⟨.hbm, 179, rfl⟩
abbrev main_call0_call0_call0_v100 : Ref sig .tc := ⟨.hbm, 180, rfl⟩
abbrev main_call0_call0_call0_v101 : Ref sig .tc := ⟨.hbm, 181, rfl⟩
abbrev main_call0_call0_call0_v102 : Ref sig .tc := ⟨.hbm, 182, rfl⟩
abbrev main_call0_call0_call0_v103 : Ref sig .tc := ⟨.hbm, 183, rfl⟩
abbrev main_call0_call0_call0_v104 : Ref sig .tc := ⟨.hbm, 184, rfl⟩
abbrev main_call0_call0_call0_v105 : Ref sig .tc := ⟨.hbm, 185, rfl⟩
abbrev main_call0_call0_call0_c_26 : Ref sig .tc := ⟨.hbm, 186, rfl⟩
abbrev main_call0_call0_call0_v106 : Ref sig .tc := ⟨.hbm, 187, rfl⟩
abbrev main_call0_call0_call0_v107 : Ref sig .tc := ⟨.hbm, 188, rfl⟩
abbrev main_call0_call0_call0_v108 : Ref sig .tc := ⟨.hbm, 189, rfl⟩
abbrev main_call0_call0_call0_c_27 : Ref sig .tc := ⟨.hbm, 190, rfl⟩
abbrev main_call0_call0_call0_v109 : Ref sig .tc := ⟨.hbm, 191, rfl⟩
abbrev main_call0_call0_call0_v110 : Ref sig .tc := ⟨.hbm, 192, rfl⟩
abbrev main_call0_call0_call0_c_28 : Ref sig .tc := ⟨.hbm, 193, rfl⟩
abbrev main_call0_call0_call0_v111 : Ref sig .tc := ⟨.hbm, 194, rfl⟩
abbrev main_call0_call0_call0_v112 : Ref sig .tc := ⟨.hbm, 195, rfl⟩
abbrev main_call0_call0_call0_v113 : Ref sig .tc := ⟨.hbm, 196, rfl⟩
abbrev main_call0_call0_call0_v114 : Ref sig .tc := ⟨.hbm, 197, rfl⟩
abbrev main_call0_call0_call0_v115 : Ref sig .tc := ⟨.hbm, 198, rfl⟩
abbrev main_call0_call0_call0_c_29 : Ref sig .tc := ⟨.hbm, 199, rfl⟩
abbrev main_call0_call0_call0_v116 : Ref sig .tc := ⟨.hbm, 200, rfl⟩
abbrev main_call0_call0_call0_v117 : Ref sig .tc := ⟨.hbm, 201, rfl⟩
abbrev main_call0_call0_call0_c_30 : Ref sig .tc := ⟨.hbm, 202, rfl⟩
abbrev main_call0_call0_call0_v118 : Ref sig .tc := ⟨.hbm, 203, rfl⟩
abbrev main_call0_call0_call0_v119 : Ref sig .tc := ⟨.hbm, 204, rfl⟩
abbrev main_call0_call0_call0_v120 : Ref sig .tc := ⟨.hbm, 205, rfl⟩
abbrev main_call0_call0_call0_v121 : Ref sig .tc := ⟨.hbm, 206, rfl⟩
abbrev main_call0_call0_call0_v122 : Ref sig .tc := ⟨.hbm, 207, rfl⟩
abbrev main_call0_call0_call0_c_31 : Ref sig .tc := ⟨.hbm, 208, rfl⟩
abbrev main_call0_call0_call0_v123 : Ref sig .tc := ⟨.hbm, 209, rfl⟩
abbrev main_call0_call0_call0_v124 : Ref sig .tc := ⟨.hbm, 210, rfl⟩
abbrev main_call0_call0_call0_c_32 : Ref sig .tc := ⟨.hbm, 211, rfl⟩
abbrev main_call0_call0_call0_v125 : Ref sig .tc := ⟨.hbm, 212, rfl⟩
abbrev main_call0_call0_call0_v126 : Ref sig .tc := ⟨.hbm, 213, rfl⟩
abbrev main_call0_call0_call0_v127 : Ref sig .tc := ⟨.hbm, 214, rfl⟩
abbrev main_call0_call0_call0_v128 : Ref sig .tc := ⟨.hbm, 215, rfl⟩
abbrev main_call0_call0_call0_v129 : Ref sig .tc := ⟨.hbm, 216, rfl⟩
abbrev main_call0_call0_call0_c_33 : Ref sig .tc := ⟨.hbm, 217, rfl⟩
abbrev main_call0_call0_call0_v130 : Ref sig .tc := ⟨.hbm, 218, rfl⟩
abbrev main_call0_call0_call0_v131 : Ref sig .tc := ⟨.hbm, 219, rfl⟩
abbrev main_call0_call0_call0_c_34 : Ref sig .tc := ⟨.hbm, 220, rfl⟩
abbrev main_call0_call0_call0_v132 : Ref sig .tc := ⟨.hbm, 221, rfl⟩
abbrev main_call0_call0_call0_v133 : Ref sig .tc := ⟨.hbm, 222, rfl⟩
abbrev main_call0_call0_call0_v134 : Ref sig .tc := ⟨.hbm, 223, rfl⟩
abbrev main_call0_call0_call0_v135 : Ref sig .tc := ⟨.hbm, 224, rfl⟩
abbrev main_call0_call0_call0_v136 : Ref sig .tc := ⟨.hbm, 225, rfl⟩
abbrev main_call0_call0_call0_v137 : Ref sig .tc := ⟨.hbm, 226, rfl⟩
abbrev main_call0_call0_call0_v138 : Ref sig .tc := ⟨.hbm, 227, rfl⟩
abbrev main_call0_call0_call0_v139 : Ref sig .tc := ⟨.hbm, 228, rfl⟩
abbrev main_call0_call0_call0_c_35 : Ref sig .tc := ⟨.hbm, 229, rfl⟩
abbrev main_call0_call0_call0_v140 : Ref sig .tc := ⟨.hbm, 230, rfl⟩
abbrev main_call0_call0_call0_v141 : Ref sig .tc := ⟨.hbm, 231, rfl⟩
abbrev main_call0_call0_call0_v142 : Ref sig .tc := ⟨.hbm, 232, rfl⟩
abbrev main_call0_call0_call0_c_36 : Ref sig .tc := ⟨.hbm, 233, rfl⟩
abbrev main_call0_call0_call0_v143 : Ref sig .tc := ⟨.hbm, 234, rfl⟩
abbrev main_call0_call0_call0_v144 : Ref sig .tc := ⟨.hbm, 235, rfl⟩
abbrev main_call0_call0_call0_c_37 : Ref sig .tc := ⟨.hbm, 236, rfl⟩
abbrev main_call0_call0_call0_v145 : Ref sig .tc := ⟨.hbm, 237, rfl⟩
abbrev main_call0_call0_call0_v146 : Ref sig .tc := ⟨.hbm, 238, rfl⟩
abbrev main_call0_call0_call0_v147 : Ref sig .tc := ⟨.hbm, 239, rfl⟩
abbrev main_call0_call0_call0_v148 : Ref sig .tc := ⟨.hbm, 240, rfl⟩
abbrev main_call0_call0_call0_v149 : Ref sig .tc := ⟨.hbm, 241, rfl⟩
abbrev main_call0_call0_call0_c_38 : Ref sig .tc := ⟨.hbm, 242, rfl⟩
abbrev main_call0_call0_call0_v150 : Ref sig .tc := ⟨.hbm, 243, rfl⟩
abbrev main_call0_call0_call0_v151 : Ref sig .tc := ⟨.hbm, 244, rfl⟩
abbrev main_call0_call0_call0_c_39 : Ref sig .tc := ⟨.hbm, 245, rfl⟩
abbrev main_call0_call0_call0_v152 : Ref sig .tc := ⟨.hbm, 246, rfl⟩
abbrev main_call0_call0_call0_v153 : Ref sig .tc := ⟨.hbm, 247, rfl⟩
abbrev main_call0_call0_call0_v154 : Ref sig .tc := ⟨.hbm, 248, rfl⟩
abbrev main_call0_call0_call0_v155 : Ref sig .tc := ⟨.hbm, 249, rfl⟩
abbrev main_call0_call0_call0_v156 : Ref sig .tc := ⟨.hbm, 250, rfl⟩
abbrev main_call0_call0_call0_c_40 : Ref sig .tc := ⟨.hbm, 251, rfl⟩
abbrev main_call0_call0_call0_v157 : Ref sig .tc := ⟨.hbm, 252, rfl⟩
abbrev main_call0_call0_call0_v158 : Ref sig .tc := ⟨.hbm, 253, rfl⟩
abbrev main_call0_call0_call0_c_41 : Ref sig .tc := ⟨.hbm, 254, rfl⟩
abbrev main_call0_call0_call0_v159 : Ref sig .tc := ⟨.hbm, 255, rfl⟩
abbrev main_call0_call0_call0_v160 : Ref sig .tc := ⟨.hbm, 256, rfl⟩
abbrev main_call0_call0_call0_v161 : Ref sig .tc := ⟨.hbm, 257, rfl⟩
abbrev main_call0_call0_call0_v162 : Ref sig .tc := ⟨.hbm, 258, rfl⟩
abbrev main_call0_call0_call0_v163 : Ref sig .tc := ⟨.hbm, 259, rfl⟩
abbrev main_call0_call0_call0_c_42 : Ref sig .tc := ⟨.hbm, 260, rfl⟩
abbrev main_call0_call0_call0_v164 : Ref sig .tc := ⟨.hbm, 261, rfl⟩
abbrev main_call0_call0_call0_v165 : Ref sig .tc := ⟨.hbm, 262, rfl⟩
abbrev main_call0_call0_call0_c_43 : Ref sig .tc := ⟨.hbm, 263, rfl⟩
abbrev main_call0_call0_call0_v166 : Ref sig .tc := ⟨.hbm, 264, rfl⟩
abbrev main_call0_call0_call0_v167 : Ref sig .tc := ⟨.hbm, 265, rfl⟩
abbrev main_call0_call0_call0_v168 : Ref sig .tc := ⟨.hbm, 266, rfl⟩
abbrev main_call0_call0_call0_v169 : Ref sig .tc := ⟨.hbm, 267, rfl⟩
abbrev main_call0_call0_call0_v170 : Ref sig .tc := ⟨.hbm, 268, rfl⟩
abbrev main_call0_call0_v18_0 : Ref sig .tc := ⟨.hbm, 269, rfl⟩
abbrev main_call0_call0_call0_v172 : Ref sig .tc := ⟨.hbm, 270, rfl⟩
abbrev main_call0_call0_call0_v173 : Ref sig .tc := ⟨.hbm, 271, rfl⟩
abbrev main_call0_call0_call0_c_44 : Ref sig .tc := ⟨.hbm, 272, rfl⟩
abbrev main_call0_call0_call0_v174 : Ref sig .tc := ⟨.hbm, 273, rfl⟩
abbrev main_call0_call0_v18_1 : Ref sig .tc := ⟨.hbm, 274, rfl⟩
abbrev main_call0_call0_v19 : Ref sig .tc := ⟨.hbm, 275, rfl⟩
abbrev main_call0_call0_c_2 : Ref sig .tc := ⟨.hbm, 276, rfl⟩
abbrev main_call0_call0_v20 : Ref sig .tc := ⟨.hbm, 277, rfl⟩
abbrev main_call0_call0_v21 : Ref sig .tc := ⟨.hbm, 278, rfl⟩
abbrev main_call0_call0_c_3 : Ref sig .tc := ⟨.hbm, 279, rfl⟩
abbrev main_call0_call0_v22 : Ref sig .tc := ⟨.hbm, 280, rfl⟩
abbrev main_call0_call0_v23 : Ref sig .tc := ⟨.hbm, 281, rfl⟩
abbrev main_call0_call0_v24 : Ref sig .tc := ⟨.hbm, 282, rfl⟩
abbrev main_call0_call0_cst : Ref sig .tc := ⟨.hbm, 283, rfl⟩
abbrev main_call0_call0_v25 : Ref sig .tc := ⟨.hbm, 284, rfl⟩
abbrev main_call0_call0_v26 : Ref sig .tc := ⟨.hbm, 285, rfl⟩
abbrev main_call0_call0_v27 : Ref sig .tc := ⟨.hbm, 286, rfl⟩
abbrev main_call0_call0_v28 : Ref sig .tc := ⟨.hbm, 287, rfl⟩
abbrev main_call0_call0_v29 : Ref sig .tc := ⟨.hbm, 288, rfl⟩
abbrev main_call0_call0_v30 : Ref sig .tc := ⟨.hbm, 289, rfl⟩
abbrev main_call0_call0_v31 : Ref sig .tc := ⟨.hbm, 290, rfl⟩
abbrev main_call0_call0_v32 : Ref sig .tc := ⟨.hbm, 291, rfl⟩
abbrev main_call0_v0 : Ref sig .tc := ⟨.hbm, 292, rfl⟩
abbrev main_call0_v1 : Ref sig .tc := ⟨.hbm, 293, rfl⟩
abbrev main_call0_v2 : Ref sig .tc := ⟨.hbm, 294, rfl⟩
abbrev main_call0_v3 : Ref sig .tc := ⟨.hbm, 295, rfl⟩
abbrev main_v24 : Ref sig .tc := ⟨.hbm, 296, rfl⟩
abbrev main_v25_0 : Ref sig .tc := ⟨.hbm, 297, rfl⟩
abbrev main_v25_1 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x520 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x520 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x128 : Shape := ⟨2, ![16384, 128]⟩
abbrev S128x520 : Shape := ⟨2, ![128, 520]⟩
abbrev S520 : Shape := ⟨1, ![520]⟩
abbrev S16384x520 : Shape := ⟨2, ![16384, 520]⟩
abbrev S1x520 : Shape := ⟨2, ![1, 520]⟩
abbrev S16384x65 : Shape := ⟨2, ![16384, 65]⟩
abbrev S16384x64 : Shape := ⟨2, ![16384, 64]⟩
abbrev S16384x1 : Shape := ⟨2, ![16384, 1]⟩
abbrev S16384 : Shape := ⟨1, ![16384]⟩
abbrev S16384x32 : Shape := ⟨2, ![16384, 32]⟩
abbrev S16384x1x32 : Shape := ⟨3, ![16384, 1, 32]⟩
abbrev S16384x8x32 : Shape := ⟨3, ![16384, 8, 32]⟩
abbrev S_ : Shape := ⟨0, ![]⟩
abbrev S16384x8 : Shape := ⟨2, ![16384, 8]⟩
abbrev S1 : Shape := ⟨1, ![1]⟩
abbrev S2 : Shape := ⟨1, ![2]⟩
abbrev S1x1 : Shape := ⟨2, ![1, 1]⟩
abbrev S16384x1x1 : Shape := ⟨3, ![16384, 1, 1]⟩
abbrev S16384x1x32x1 : Shape := ⟨4, ![16384, 1, 32, 1]⟩
abbrev S1x1x1x1 : Shape := ⟨4, ![1, 1, 1, 1]⟩

abbrev nBuf : Space → Nat
  | .hbm => 457
  | .vmem => 0
  | .smem => 0
  | _ => 0

abbrev hbmTy0_0 (i : Nat) : BufTy := match i % 128 with
  | 0 => ⟨S16384x128, .f32⟩
  | 1 => ⟨S128x520, .f32⟩
  | 2 => ⟨S520, .f32⟩
  | 3 => ⟨S16384x520, .f32⟩
  | 4 => ⟨S1x520, .f32⟩
  | 5 => ⟨S16384x520, .f32⟩
  | 6 => ⟨S16384x520, .f32⟩
  | 7 => ⟨S16384x65, .f32⟩
  | 8 => ⟨S16384x65, .f32⟩
  | 9 => ⟨S16384x65, .f32⟩
  | 10 => ⟨S16384x65, .f32⟩
  | 11 => ⟨S16384x65, .f32⟩
  | 12 => ⟨S16384x65, .f32⟩
  | 13 => ⟨S16384x65, .f32⟩
  | 14 => ⟨S16384x65, .f32⟩
  | 15 => ⟨S16384x64, .f32⟩
  | 16 => ⟨S16384x1, .f32⟩
  | 17 => ⟨S16384, .f32⟩
  | 18 => ⟨S16384x32, .f32⟩
  | 19 => ⟨S16384x32, .f32⟩
  | 20 => ⟨S16384x64, .f32⟩
  | 21 => ⟨S16384x1, .f32⟩
  | 22 => ⟨S16384, .f32⟩
  | 23 => ⟨S16384x32, .f32⟩
  | 24 => ⟨S16384x32, .f32⟩
  | 25 => ⟨S16384x64, .f32⟩
  | 26 => ⟨S16384x1, .f32⟩
  | 27 => ⟨S16384, .f32⟩
  | 28 => ⟨S16384x32, .f32⟩
  | 29 => ⟨S16384x32, .f32⟩
  | 30 => ⟨S16384x64, .f32⟩
  | 31 => ⟨S16384x1, .f32⟩
  | 32 => ⟨S16384, .f32⟩
  | 33 => ⟨S16384x32, .f32⟩
  | 34 => ⟨S16384x32, .f32⟩
  | 35 => ⟨S16384x64, .f32⟩
  | 36 => ⟨S16384x1, .f32⟩
  | 37 => ⟨S16384, .f32⟩
  | 38 => ⟨S16384x32, .f32⟩
  | 39 => ⟨S16384x32, .f32⟩
  | 40 => ⟨S16384x64, .f32⟩
  | 41 => ⟨S16384x1, .f32⟩
  | 42 => ⟨S16384, .f32⟩
  | 43 => ⟨S16384x32, .f32⟩
  | 44 => ⟨S16384x32, .f32⟩
  | 45 => ⟨S16384x64, .f32⟩
  | 46 => ⟨S16384x1, .f32⟩
  | 47 => ⟨S16384, .f32⟩
  | 48 => ⟨S16384x32, .f32⟩
  | 49 => ⟨S16384x32, .f32⟩
  | 50 => ⟨S16384x64, .f32⟩
  | 51 => ⟨S16384x1, .f32⟩
  | 52 => ⟨S16384, .f32⟩
  | 53 => ⟨S16384x32, .f32⟩
  | 54 => ⟨S16384x32, .f32⟩
  | 55 => ⟨S16384x1x32, .f32⟩
  | 56 => ⟨S16384x1x32, .f32⟩
  | 57 => ⟨S16384x1x32, .f32⟩
  | 58 => ⟨S16384x1x32, .f32⟩
  | 59 => ⟨S16384x1x32, .f32⟩
  | 60 => ⟨S16384x1x32, .f32⟩
  | 61 => ⟨S16384x1x32, .f32⟩
  | 62 => ⟨S16384x1x32, .f32⟩
  | 63 => ⟨S16384x8x32, .f32⟩
  | 64 => ⟨S16384x1x32, .f32⟩
  | 65 => ⟨S16384x1x32, .f32⟩
  | 66 => ⟨S16384x1x32, .f32⟩
  | 67 => ⟨S16384x1x32, .f32⟩
  | 68 => ⟨S16384x1x32, .f32⟩
  | 69 => ⟨S16384x1x32, .f32⟩
  | 70 => ⟨S16384x1x32, .f32⟩
  | 71 => ⟨S16384x1x32, .f32⟩
  | 72 => ⟨S16384x8x32, .f32⟩
  | 73 => ⟨S_, .f32⟩
  | 74 => ⟨S16384x8x32, .f32⟩
  | 75 => ⟨S16384x8x32, .f32⟩
  | 76 => ⟨S16384x8x32, .f32⟩
  | 77 => ⟨S16384x8x32, .f32⟩
  | 78 => ⟨S16384x8x32, .i1⟩
  | 79 => ⟨S16384x8x32, .f32⟩
  | 80 => ⟨S16384x8x32, .f32⟩
  | 81 => ⟨S16384x8x32, .f32⟩
  | 82 => ⟨S16384x8x32, .f32⟩
  | 83 => ⟨S16384x8x32, .f32⟩
  | 84 => ⟨S16384x8x32, .f32⟩
  | 85 => ⟨S16384x8x32, .f32⟩
  | 86 => ⟨S16384x8x32, .f32⟩
  | 87 => ⟨S_, .f32⟩
  | 88 => ⟨S16384x8x32, .f32⟩
  | 89 => ⟨S16384x8x32, .f32⟩
  | 90 => ⟨S16384x8x32, .f32⟩
  | 91 => ⟨S16384x1, .f32⟩
  | 92 => ⟨S16384x1, .f32⟩
  | 93 => ⟨S16384x1, .f32⟩
  | 94 => ⟨S16384x1, .f32⟩
  | 95 => ⟨S16384x1, .f32⟩
  | 96 => ⟨S16384x1, .f32⟩
  | 97 => ⟨S16384x1, .f32⟩
  | 98 => ⟨S16384x1, .f32⟩
  | 99 => ⟨S16384x8, .f32⟩
  | 100 => ⟨S_, .f32⟩
  | 101 => ⟨S_, .f32⟩
  | 102 => ⟨S_, .f32⟩
  | 103 => ⟨S16384x8x32, .f32⟩
  | 104 => ⟨S16384x8x32, .f32⟩
  | 105 => ⟨S_, .f32⟩
  | 106 => ⟨S16384x8x32, .f32⟩
  | 107 => ⟨S16384x8x32, .f32⟩
  | 108 => ⟨S_, .f32⟩
  | 109 => ⟨S16384, .f32⟩
  | 110 => ⟨S_, .f32⟩
  | 111 => ⟨S16384, .f32⟩
  | 112 => ⟨S16384, .f32⟩
  | 113 => ⟨S16384x1, .f32⟩
  | 114 => ⟨S16384x8, .f32⟩
  | 115 => ⟨S16384x8, .f32⟩
  | 116 => ⟨S16384x8, .f32⟩
  | 117 => ⟨S_, .f32⟩
  | 118 => ⟨S16384, .f32⟩
  | 119 => ⟨S16384x1, .f32⟩
  | 120 => ⟨S16384x8, .f32⟩
  | 121 => ⟨S16384x8, .f32⟩
  | 122 => ⟨S_, .i32⟩
  | 123 => ⟨S_, .i32⟩
  | 124 => ⟨S_, .i32⟩
  | 125 => ⟨S_, .i32⟩
  | 126 => ⟨S1, .i32⟩
  | 127 => ⟨S_, .i32⟩
  | _ => ⟨S16384x128, .f32⟩

abbrev hbmTy0_1 (i : Nat) : BufTy := match i % 128 with
  | 0 => ⟨S_, .i32⟩
  | 1 => ⟨S_, .i32⟩
  | 2 => ⟨S1, .i32⟩
  | 3 => ⟨S2, .i32⟩
  | 4 => ⟨S_, .f32⟩
  | 5 => ⟨S16384x8, .f32⟩
  | 6 => ⟨S16384x8, .f32⟩
  | 7 => ⟨S16384x8, .f32⟩
  | 8 => ⟨S_, .f32⟩
  | 9 => ⟨S_, .f32⟩
  | 10 => ⟨S_, .f32⟩
  | 11 => ⟨S1x1, .f32⟩
  | 12 => ⟨S1x1, .f32⟩
  | 13 => ⟨S1, .i32⟩
  | 14 => ⟨S_, .i32⟩
  | 15 => ⟨S1, .i32⟩
  | 16 => ⟨S_, .i32⟩
  | 17 => ⟨S16384x8, .i64⟩
  | 18 => ⟨S16384x8, .i64⟩
  | 19 => ⟨S_, .i64⟩
  | 20 => ⟨S16384x8, .i64⟩
  | 21 => ⟨S16384x8, .i64⟩
  | 22 => ⟨S_, .i64⟩
  | 23 => ⟨S16384x8, .i64⟩
  | 24 => ⟨S16384x8, .i64⟩
  | 25 => ⟨S16384x8, .i64⟩
  | 26 => ⟨S_, .i64⟩
  | 27 => ⟨S16384x8, .i64⟩
  | 28 => ⟨S16384x8, .i64⟩
  | 29 => ⟨S16384x8, .i32⟩
  | 30 => ⟨S16384x8, .i32⟩
  | 31 => ⟨S_, .i32⟩
  | 32 => ⟨S_, .i32⟩
  | 33 => ⟨S_, .i32⟩
  | 34 => ⟨S16384x8, .i32⟩
  | 35 => ⟨S16384x8, .i32⟩
  | 36 => ⟨S16384x8, .i32⟩
  | 37 => ⟨S16384x8, .i32⟩
  | 38 => ⟨S16384x8, .i32⟩
  | 39 => ⟨S_, .i32⟩
  | 40 => ⟨S16384x8, .i32⟩
  | 41 => ⟨S16384x8, .i32⟩
  | 42 => ⟨S_, .i32⟩
  | 43 => ⟨S16384x8, .i32⟩
  | 44 => ⟨S16384x8, .i32⟩
  | 45 => ⟨S16384x8, .i32⟩
  | 46 => ⟨S16384x8, .i32⟩
  | 47 => ⟨S16384x8, .i32⟩
  | 48 => ⟨S_, .i32⟩
  | 49 => ⟨S16384x8, .i32⟩
  | 50 => ⟨S16384x8, .i32⟩
  | 51 => ⟨S_, .i32⟩
  | 52 => ⟨S16384x8, .i32⟩
  | 53 => ⟨S16384x8, .i32⟩
  | 54 => ⟨S16384x8, .i32⟩
  | 55 => ⟨S16384x8, .i32⟩
  | 56 => ⟨S16384x8, .i32⟩
  | 57 => ⟨S_, .i32⟩
  | 58 => ⟨S16384x8, .i32⟩
  | 59 => ⟨S16384x8, .i32⟩
  | 60 => ⟨S_, .i32⟩
  | 61 => ⟨S16384x8, .i32⟩
  | 62 => ⟨S16384x8, .i32⟩
  | 63 => ⟨S16384x8, .i32⟩
  | 64 => ⟨S16384x8, .i32⟩
  | 65 => ⟨S16384x8, .i32⟩
  | 66 => ⟨S_, .i32⟩
  | 67 => ⟨S16384x8, .i32⟩
  | 68 => ⟨S16384x8, .i32⟩
  | 69 => ⟨S_, .i32⟩
  | 70 => ⟨S16384x8, .i32⟩
  | 71 => ⟨S16384x8, .i32⟩
  | 72 => ⟨S16384x8, .i32⟩
  | 73 => ⟨S16384x8, .i32⟩
  | 74 => ⟨S16384x8, .i32⟩
  | 75 => ⟨S16384x8, .i32⟩
  | 76 => ⟨S16384x8, .i32⟩
  | 77 => ⟨S16384x8, .i32⟩
  | 78 => ⟨S_, .i32⟩
  | 79 => ⟨S16384x8, .i32⟩
  | 80 => ⟨S16384x8, .i32⟩
  | 81 => ⟨S16384x8, .i32⟩
  | 82 => ⟨S_, .i32⟩
  | 83 => ⟨S16384x8, .i32⟩
  | 84 => ⟨S16384x8, .i32⟩
  | 85 => ⟨S_, .i32⟩
  | 86 => ⟨S16384x8, .i32⟩
  | 87 => ⟨S16384x8, .i32⟩
  | 88 => ⟨S16384x8, .i32⟩
  | 89 => ⟨S16384x8, .i32⟩
  | 90 => ⟨S16384x8, .i32⟩
  | 91 => ⟨S_, .i32⟩
  | 92 => ⟨S16384x8, .i32⟩
  | 93 => ⟨S16384x8, .i32⟩
  | 94 => ⟨S_, .i32⟩
  | 95 => ⟨S16384x8, .i32⟩
  | 96 => ⟨S16384x8, .i32⟩
  | 97 => ⟨S16384x8, .i32⟩
  | 98 => ⟨S16384x8, .i32⟩
  | 99 => ⟨S16384x8, .i32⟩
  | 100 => ⟨S_, .i32⟩
  | 101 => ⟨S16384x8, .i32⟩
  | 102 => ⟨S16384x8, .i32⟩
  | 103 => ⟨S_, .i32⟩
  | 104 => ⟨S16384x8, .i32⟩
  | 105 => ⟨S16384x8, .i32⟩
  | 106 => ⟨S16384x8, .i32⟩
  | 107 => ⟨S16384x8, .i32⟩
  | 108 => ⟨S16384x8, .i32⟩
  | 109 => ⟨S_, .i32⟩
  | 110 => ⟨S16384x8, .i32⟩
  | 111 => ⟨S16384x8, .i32⟩
  | 112 => ⟨S_, .i32⟩
  | 113 => ⟨S16384x8, .i32⟩
  | 114 => ⟨S16384x8, .i32⟩
  | 115 => ⟨S16384x8, .i32⟩
  | 116 => ⟨S16384x8, .i32⟩
  | 117 => ⟨S16384x8, .i32⟩
  | 118 => ⟨S16384x8, .i32⟩
  | 119 => ⟨S16384x8, .i32⟩
  | 120 => ⟨S16384x8, .i32⟩
  | 121 => ⟨S_, .i32⟩
  | 122 => ⟨S16384x8, .i32⟩
  | 123 => ⟨S16384x8, .i32⟩
  | 124 => ⟨S16384x8, .i32⟩
  | 125 => ⟨S_, .i32⟩
  | 126 => ⟨S16384x8, .i32⟩
  | 127 => ⟨S16384x8, .i32⟩
  | _ => ⟨S16384x128, .f32⟩

abbrev hbmTy0_2 (i : Nat) : BufTy := match i % 128 with
  | 0 => ⟨S_, .i32⟩
  | 1 => ⟨S16384x8, .i32⟩
  | 2 => ⟨S16384x8, .i32⟩
  | 3 => ⟨S16384x8, .i32⟩
  | 4 => ⟨S16384x8, .i32⟩
  | 5 => ⟨S16384x8, .i32⟩
  | 6 => ⟨S_, .i32⟩
  | 7 => ⟨S16384x8, .i32⟩
  | 8 => ⟨S16384x8, .i32⟩
  | 9 => ⟨S_, .i32⟩
  | 10 => ⟨S16384x8, .i32⟩
  | 11 => ⟨S16384x8, .i32⟩
  | 12 => ⟨S16384x8, .i32⟩
  | 13 => ⟨S16384x8, .i32⟩
  | 14 => ⟨S16384x8, .i32⟩
  | 15 => ⟨S_, .i32⟩
  | 16 => ⟨S16384x8, .i32⟩
  | 17 => ⟨S16384x8, .i32⟩
  | 18 => ⟨S_, .i32⟩
  | 19 => ⟨S16384x8, .i32⟩
  | 20 => ⟨S16384x8, .i32⟩
  | 21 => ⟨S16384x8, .i32⟩
  | 22 => ⟨S16384x8, .i32⟩
  | 23 => ⟨S16384x8, .i32⟩
  | 24 => ⟨S_, .i32⟩
  | 25 => ⟨S16384x8, .i32⟩
  | 26 => ⟨S16384x8, .i32⟩
  | 27 => ⟨S_, .i32⟩
  | 28 => ⟨S16384x8, .i32⟩
  | 29 => ⟨S16384x8, .i32⟩
  | 30 => ⟨S16384x8, .i32⟩
  | 31 => ⟨S16384x8, .i32⟩
  | 32 => ⟨S16384x8, .i32⟩
  | 33 => ⟨S16384x8, .i32⟩
  | 34 => ⟨S16384x8, .i32⟩
  | 35 => ⟨S16384x8, .i32⟩
  | 36 => ⟨S_, .i32⟩
  | 37 => ⟨S16384x8, .i32⟩
  | 38 => ⟨S16384x8, .i32⟩
  | 39 => ⟨S16384x8, .i32⟩
  | 40 => ⟨S_, .i32⟩
  | 41 => ⟨S16384x8, .i32⟩
  | 42 => ⟨S16384x8, .i32⟩
  | 43 => ⟨S_, .i32⟩
  | 44 => ⟨S16384x8, .i32⟩
  | 45 => ⟨S16384x8, .i32⟩
  | 46 => ⟨S16384x8, .i32⟩
  | 47 => ⟨S16384x8, .i32⟩
  | 48 => ⟨S16384x8, .i32⟩
  | 49 => ⟨S_, .i32⟩
  | 50 => ⟨S16384x8, .i32⟩
  | 51 => ⟨S16384x8, .i32⟩
  | 52 => ⟨S_, .i32⟩
  | 53 => ⟨S16384x8, .i32⟩
  | 54 => ⟨S16384x8, .i32⟩
  | 55 => ⟨S16384x8, .i32⟩
  | 56 => ⟨S16384x8, .i32⟩
  | 57 => ⟨S16384x8, .i32⟩
  | 58 => ⟨S_, .i32⟩
  | 59 => ⟨S16384x8, .i32⟩
  | 60 => ⟨S16384x8, .i32⟩
  | 61 => ⟨S_, .i32⟩
  | 62 => ⟨S16384x8, .i32⟩
  | 63 => ⟨S16384x8, .i32⟩
  | 64 => ⟨S16384x8, .i32⟩
  | 65 => ⟨S16384x8, .i32⟩
  | 66 => ⟨S16384x8, .i32⟩
  | 67 => ⟨S_, .i32⟩
  | 68 => ⟨S16384x8, .i32⟩
  | 69 => ⟨S16384x8, .i32⟩
  | 70 => ⟨S_, .i32⟩
  | 71 => ⟨S16384x8, .i32⟩
  | 72 => ⟨S16384x8, .i32⟩
  | 73 => ⟨S16384x8, .i32⟩
  | 74 => ⟨S16384x8, .i32⟩
  | 75 => ⟨S16384x8, .i32⟩
  | 76 => ⟨S16384x8, .i32⟩
  | 77 => ⟨S16384x8, .i32⟩
  | 78 => ⟨S16384x8, .i32⟩
  | 79 => ⟨S_, .i32⟩
  | 80 => ⟨S16384x8, .i32⟩
  | 81 => ⟨S16384x8, .i32⟩
  | 82 => ⟨S16384x8, .i32⟩
  | 83 => ⟨S_, .i32⟩
  | 84 => ⟨S16384x8, .i32⟩
  | 85 => ⟨S16384x8, .i32⟩
  | 86 => ⟨S_, .i32⟩
  | 87 => ⟨S16384x8, .i32⟩
  | 88 => ⟨S16384x8, .i32⟩
  | 89 => ⟨S16384x8, .i32⟩
  | 90 => ⟨S16384x8, .i32⟩
  | 91 => ⟨S16384x8, .i32⟩
  | 92 => ⟨S_, .i32⟩
  | 93 => ⟨S16384x8, .i32⟩
  | 94 => ⟨S16384x8, .i32⟩
  | 95 => ⟨S_, .i32⟩
  | 96 => ⟨S16384x8, .i32⟩
  | 97 => ⟨S16384x8, .i32⟩
  | 98 => ⟨S16384x8, .i32⟩
  | 99 => ⟨S16384x8, .i32⟩
  | 100 => ⟨S16384x8, .i32⟩
  | 101 => ⟨S_, .i32⟩
  | 102 => ⟨S16384x8, .i32⟩
  | 103 => ⟨S16384x8, .i32⟩
  | 104 => ⟨S_, .i32⟩
  | 105 => ⟨S16384x8, .i32⟩
  | 106 => ⟨S16384x8, .i32⟩
  | 107 => ⟨S16384x8, .i32⟩
  | 108 => ⟨S16384x8, .i32⟩
  | 109 => ⟨S16384x8, .i32⟩
  | 110 => ⟨S_, .i32⟩
  | 111 => ⟨S16384x8, .i32⟩
  | 112 => ⟨S16384x8, .i32⟩
  | 113 => ⟨S_, .i32⟩
  | 114 => ⟨S16384x8, .i32⟩
  | 115 => ⟨S16384x8, .i32⟩
  | 116 => ⟨S16384x8, .i32⟩
  | 117 => ⟨S16384x8, .i32⟩
  | 118 => ⟨S16384x8, .i32⟩
  | 119 => ⟨S16384x8, .i32⟩
  | 120 => ⟨S16384x8, .i32⟩
  | 121 => ⟨S16384x8, .i32⟩
  | 122 => ⟨S_, .i32⟩
  | 123 => ⟨S16384x8, .i32⟩
  | 124 => ⟨S16384x8, .i32⟩
  | 125 => ⟨S16384x8, .i32⟩
  | 126 => ⟨S_, .i32⟩
  | 127 => ⟨S16384x8, .i32⟩
  | _ => ⟨S16384x128, .f32⟩

abbrev hbmTy0_3 (i : Nat) : BufTy := match i % 128 with
  | 0 => ⟨S16384x8, .i32⟩
  | 1 => ⟨S_, .i32⟩
  | 2 => ⟨S16384x8, .i32⟩
  | 3 => ⟨S16384x8, .i32⟩
  | 4 => ⟨S16384x8, .f32⟩
  | 5 => ⟨S_, .f32⟩
  | 6 => ⟨S16384x8, .f32⟩
  | 7 => ⟨S16384x8, .f32⟩
  | 8 => ⟨S1x1, .f32⟩
  | 9 => ⟨S16384x8, .f32⟩
  | 10 => ⟨S16384x8, .f32⟩
  | 11 => ⟨S16384x8, .f32⟩
  | 12 => ⟨S16384x8, .f32⟩
  | 13 => ⟨S16384x8, .f32⟩
  | 14 => ⟨S16384x8, .f32⟩
  | 15 => ⟨S16384x8, .f32⟩
  | 16 => ⟨S16384x8, .f32⟩
  | 17 => ⟨S16384x8, .f32⟩
  | 18 => ⟨S16384x8, .f32⟩
  | 19 => ⟨S16384x8, .f32⟩
  | 20 => ⟨S16384x8, .i32⟩
  | 21 => ⟨S_, .f32⟩
  | 22 => ⟨S_, .i32⟩
  | 23 => ⟨S16384, .f32⟩
  | 24 => ⟨S16384, .i32⟩
  | 25 => ⟨S16384x1x1, .i32⟩
  | 26 => ⟨S16384x1x32, .i32⟩
  | 27 => ⟨S_, .i32⟩
  | 28 => ⟨S16384x1x32, .i32⟩
  | 29 => ⟨S16384x1x32, .i1⟩
  | 30 => ⟨S_, .i32⟩
  | 31 => ⟨S16384x1x32, .i32⟩
  | 32 => ⟨S16384x1x32, .i32⟩
  | 33 => ⟨S16384x1x32, .i32⟩
  | 34 => ⟨S16384x1x32x1, .i32⟩
  | 35 => ⟨S1, .i32⟩
  | 36 => ⟨S_, .i32⟩
  | 37 => ⟨S16384x1x32x1, .i32⟩
  | 38 => ⟨S16384x1x32x1, .i1⟩
  | 39 => ⟨S1x1x1x1, .i32⟩
  | 40 => ⟨S16384x1x32x1, .i32⟩
  | 41 => ⟨S16384x1x32x1, .i1⟩
  | 42 => ⟨S16384x1x32x1, .i1⟩
  | 43 => ⟨S_, .i1⟩
  | 44 => ⟨S16384x1x32, .i1⟩
  | 45 => ⟨S16384x1x32, .f32⟩
  | 46 => ⟨S_, .f32⟩
  | 47 => ⟨S16384x1x32, .f32⟩
  | 48 => ⟨S16384x1x32, .f32⟩
  | 49 => ⟨S16384x32, .f32⟩
  | 50 => ⟨S_, .i32⟩
  | 51 => ⟨S16384x1x32, .i32⟩
  | 52 => ⟨S16384x1x32, .i1⟩
  | 53 => ⟨S_, .i32⟩
  | 54 => ⟨S16384x1x32, .i32⟩
  | 55 => ⟨S16384x1x32, .i32⟩
  | 56 => ⟨S16384x1x32, .i32⟩
  | 57 => ⟨S16384x1x32x1, .i32⟩
  | 58 => ⟨S1, .i32⟩
  | 59 => ⟨S_, .i32⟩
  | 60 => ⟨S16384x1x32x1, .i32⟩
  | 61 => ⟨S16384x1x32x1, .i1⟩
  | 62 => ⟨S1x1x1x1, .i32⟩
  | 63 => ⟨S16384x1x32x1, .i32⟩
  | 64 => ⟨S16384x1x32x1, .i1⟩
  | 65 => ⟨S16384x1x32x1, .i1⟩
  | 66 => ⟨S_, .i1⟩
  | 67 => ⟨S16384x1x32, .i1⟩
  | 68 => ⟨S16384x1x32, .f32⟩
  | 69 => ⟨S_, .f32⟩
  | 70 => ⟨S16384x1x32, .f32⟩
  | 71 => ⟨S16384x1x32, .f32⟩
  | 72 => ⟨S16384x32, .f32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_v70 : Ref sig .tc := ⟨.hbm, 86, rfl⟩
abbrev main_cst : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_0 : Ref sig .tc := ⟨.hbm, 100, rfl⟩
abbrev main_cst_1 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_v83 : Ref sig .tc := ⟨.hbm, 107, rfl⟩
abbrev main_cst_2 : Ref sig .tc := ⟨.hbm, 108, rfl⟩
abbrev main_v84 : Ref sig .tc := ⟨.hbm, 109, rfl⟩
abbrev main_cst_3 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_4 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c : Ref sig .tc := ⟨.hbm, 122, rfl⟩
abbrev main_c_5 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_6 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_7 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call2_cst : Ref sig .tc := ⟨.hbm, 136, rfl⟩
abbrev main_call2_cst_0 : Ref sig .tc := ⟨.hbm, 137, rfl⟩
abbrev main_call2_call0_v0 : Ref sig .tc := ⟨.hbm, 138, rfl⟩
abbrev main_call2_call0_v1 : Ref sig .tc := ⟨.hbm, 139, rfl⟩
abbrev main_call2_call0_v2 : Ref sig .tc := ⟨.hbm, 140, rfl⟩
abbrev main_call2_call0_v3 : Ref sig .tc := ⟨.hbm, 141, rfl⟩
abbrev main_call2_call0_v4 : Ref sig .tc := ⟨.hbm, 142, rfl⟩
abbrev main_call2_call0_v5 : Ref sig .tc := ⟨.hbm, 143, rfl⟩
abbrev main_call2_call0_v6 : Ref sig .tc := ⟨.hbm, 144, rfl⟩
abbrev main_call2_call0_v7 : Ref sig .tc := ⟨.hbm, 145, rfl⟩
abbrev main_call2_call0_v8 : Ref sig .tc := ⟨.hbm, 146, rfl⟩
abbrev main_call2_call0_c : Ref sig .tc := ⟨.hbm, 147, rfl⟩
abbrev main_call2_call0_v9 : Ref sig .tc := ⟨.hbm, 148, rfl⟩
abbrev main_call2_call0_v10 : Ref sig .tc := ⟨.hbm, 149, rfl⟩
abbrev main_call2_call0_c_0 : Ref sig .tc := ⟨.hbm, 150, rfl⟩
abbrev main_call2_call0_v11 : Ref sig .tc := ⟨.hbm, 151, rfl⟩
abbrev main_call2_call0_v12 : Ref sig .tc := ⟨.hbm, 152, rfl⟩
abbrev main_call2_call0_v13 : Ref sig .tc := ⟨.hbm, 153, rfl⟩
abbrev main_call2_call0_c_1 : Ref sig .tc := ⟨.hbm, 154, rfl⟩
abbrev main_call2_call0_v14 : Ref sig .tc := ⟨.hbm, 155, rfl⟩
abbrev main_call2_call0_v15 : Ref sig .tc := ⟨.hbm, 156, rfl⟩
abbrev main_call2_call0_v16 : Ref sig .tc := ⟨.hbm, 157, rfl⟩
abbrev main_call2_call0_v17 : Ref sig .tc := ⟨.hbm, 158, rfl⟩
abbrev main_call2_call0_call0_v0 : Ref sig .tc := ⟨.hbm, 159, rfl⟩
abbrev main_call2_call0_call0_c : Ref sig .tc := ⟨.hbm, 160, rfl⟩
abbrev main_call2_call0_call0_v1 : Ref sig .tc := ⟨.hbm, 161, rfl⟩
abbrev main_call2_call0_call0_v2 : Ref sig .tc := ⟨.hbm, 162, rfl⟩
abbrev main_call2_call0_call0_v3 : Ref sig .tc := ⟨.hbm, 163, rfl⟩
abbrev main_call2_call0_call0_v4 : Ref sig .tc := ⟨.hbm, 164, rfl⟩
abbrev main_call2_call0_call0_v5 : Ref sig .tc := ⟨.hbm, 165, rfl⟩
abbrev main_call2_call0_call0_v6 : Ref sig .tc := ⟨.hbm, 166, rfl⟩
abbrev main_call2_call0_call0_c_0 : Ref sig .tc := ⟨.hbm, 167, rfl⟩
abbrev main_call2_call0_call0_v7 : Ref sig .tc := ⟨.hbm, 168, rfl⟩
abbrev main_call2_call0_call0_v8 : Ref sig .tc := ⟨.hbm, 169, rfl⟩
abbrev main_call2_call0_call0_c_1 : Ref sig .tc := ⟨.hbm, 170, rfl⟩
abbrev main_call2_call0_call0_v9 : Ref sig .tc := ⟨.hbm, 171, rfl⟩
abbrev main_call2_call0_call0_v10 : Ref sig .tc := ⟨.hbm, 172, rfl⟩
abbrev main_call2_call0_call0_v11 : Ref sig .tc := ⟨.hbm, 173, rfl⟩
abbrev main_call2_call0_call0_v12 : Ref sig .tc := ⟨.hbm, 174, rfl⟩
abbrev main_call2_call0_call0_v13 : Ref sig .tc := ⟨.hbm, 175, rfl⟩
abbrev main_call2_call0_call0_c_2 : Ref sig .tc := ⟨.hbm, 176, rfl⟩
abbrev main_call2_call0_call0_v14 : Ref sig .tc := ⟨.hbm, 177, rfl⟩
abbrev main_call2_call0_call0_v15 : Ref sig .tc := ⟨.hbm, 178, rfl⟩
abbrev main_call2_call0_call0_c_3 : Ref sig .tc := ⟨.hbm, 179, rfl⟩
abbrev main_call2_call0_call0_v16 : Ref sig .tc := ⟨.hbm, 180, rfl⟩
abbrev main_call2_call0_call0_v17 : Ref sig .tc := ⟨.hbm, 181, rfl⟩
abbrev main_call2_call0_call0_v18 : Ref sig .tc := ⟨.hbm, 182, rfl⟩
abbrev main_call2_call0_call0_v19 : Ref sig .tc := ⟨.hbm, 183, rfl⟩
abbrev main_call2_call0_call0_v20 : Ref sig .tc := ⟨.hbm, 184, rfl⟩
abbrev main_call2_call0_call0_c_4 : Ref sig .tc := ⟨.hbm, 185, rfl⟩
abbrev main_call2_call0_call0_v21 : Ref sig .tc := ⟨.hbm, 186, rfl⟩
abbrev main_call2_call0_call0_v22 : Ref sig .tc := ⟨.hbm, 187, rfl⟩
abbrev main_call2_call0_call0_c_5 : Ref sig .tc := ⟨.hbm, 188, rfl⟩
abbrev main_call2_call0_call0_v23 : Ref sig .tc := ⟨.hbm, 189, rfl⟩
abbrev main_call2_call0_call0_v24 : Ref sig .tc := ⟨.hbm, 190, rfl⟩
abbrev main_call2_call0_call0_v25 : Ref sig .tc := ⟨.hbm, 191, rfl⟩
abbrev main_call2_call0_call0_v26 : Ref sig .tc := ⟨.hbm, 192, rfl⟩
abbrev main_call2_call0_call0_v27 : Ref sig .tc := ⟨.hbm, 193, rfl⟩
abbrev main_call2_call0_call0_c_6 : Ref sig .tc := ⟨.hbm, 194, rfl⟩
abbrev main_call2_call0_call0_v28 : Ref sig .tc := ⟨.hbm, 195, rfl⟩
abbrev main_call2_call0_call0_v29 : Ref sig .tc := ⟨.hbm, 196, rfl⟩
abbrev main_call2_call0_call0_c_7 : Ref sig .tc := ⟨.hbm, 197, rfl⟩
abbrev main_call2_call0_call0_v30 : Ref sig .tc := ⟨.hbm, 198, rfl⟩
abbrev main_call2_call0_call0_v31 : Ref sig .tc := ⟨.hbm, 199, rfl⟩
abbrev main_call2_call0_call0_v32 : Ref sig .tc := ⟨.hbm, 200, rfl⟩
abbrev main_call2_call0_call0_v33 : Ref sig .tc := ⟨.hbm, 201, rfl⟩
abbrev main_call2_call0_call0_v34 : Ref sig .tc := ⟨.hbm, 202, rfl⟩
abbrev main_call2_call0_call0_v35 : Ref sig .tc := ⟨.hbm, 203, rfl⟩
abbrev main_call2_call0_call0_v36 : Ref sig .tc := ⟨.hbm, 204, rfl⟩
abbrev main_call2_call0_call0_v37 : Ref sig .tc := ⟨.hbm, 205, rfl⟩
abbrev main_call2_call0_call0_c_8 : Ref sig .tc := ⟨.hbm, 206, rfl⟩
abbrev main_call2_call0_call0_v38 : Ref sig .tc := ⟨.hbm, 207, rfl⟩
abbrev main_call2_call0_call0_v39 : Ref sig .tc := ⟨.hbm, 208, rfl⟩
abbrev main_call2_call0_call0_v40 : Ref sig .tc := ⟨.hbm, 209, rfl⟩
abbrev main_call2_call0_call0_c_9 : Ref sig .tc := ⟨.hbm, 210, rfl⟩
abbrev main_call2_call0_call0_v41 : Ref sig .tc := ⟨.hbm, 211, rfl⟩
abbrev main_call2_call0_call0_v42 : Ref sig .tc := ⟨.hbm, 212, rfl⟩
abbrev main_call2_call0_call0_c_10 : Ref sig .tc := ⟨.hbm, 213, rfl⟩
abbrev main_call2_call0_call0_v43 : Ref sig .tc := ⟨.hbm, 214, rfl⟩
abbrev main_call2_call0_call0_v44 : Ref sig .tc := ⟨.hbm, 215, rfl⟩
abbrev main_call2_call0_call0_v45 : Ref sig .tc := ⟨.hbm, 216, rfl⟩
abbrev main_call2_call0_call0_v46 : Ref sig .tc := ⟨.hbm, 217, rfl⟩
abbrev main_call2_call0_call0_v47 : Ref sig .tc := ⟨.hbm, 218, rfl⟩
abbrev main_call2_call0_call0_c_11 : Ref sig .tc := ⟨.hbm, 219, rfl⟩
abbrev main_call2_call0_call0_v48 : Ref sig .tc := ⟨.hbm, 220, rfl⟩
abbrev main_call2_call0_call0_v49 : Ref sig .tc := ⟨.hbm, 221, rfl⟩
abbrev main_call2_call0_call0_c_12 : Ref sig .tc := ⟨.hbm, 222, rfl⟩
abbrev main_call2_call0_call0_v50 : Ref sig .tc := ⟨.hbm, 223, rfl⟩
abbrev main_call2_call0_call0_v51 : Ref sig .tc := ⟨.hbm, 224, rfl⟩
abbrev main_call2_call0_call0_v52 : Ref sig .tc := ⟨.hbm, 225, rfl⟩
abbrev main_call2_call0_call0_v53 : Ref sig .tc := ⟨.hbm, 226, rfl⟩
abbrev main_call2_call0_call0_v54 : Ref sig .tc := ⟨.hbm, 227, rfl⟩
abbrev main_call2_call0_call0_c_13 : Ref sig .tc := ⟨.hbm, 228, rfl⟩
abbrev main_call2_call0_call0_v55 : Ref sig .tc := ⟨.hbm, 229, rfl⟩
abbrev main_call2_call0_call0_v56 : Ref sig .tc := ⟨.hbm, 230, rfl⟩
abbrev main_call2_call0_call0_c_14 : Ref sig .tc := ⟨.hbm, 231, rfl⟩
abbrev main_call2_call0_call0_v57 : Ref sig .tc := ⟨.hbm, 232, rfl⟩
abbrev main_call2_call0_call0_v58 : Ref sig .tc := ⟨.hbm, 233, rfl⟩
abbrev main_call2_call0_call0_v59 : Ref sig .tc := ⟨.hbm, 234, rfl⟩
abbrev main_call2_call0_call0_v60 : Ref sig .tc := ⟨.hbm, 235, rfl⟩
abbrev main_call2_call0_call0_v61 : Ref sig .tc := ⟨.hbm, 236, rfl⟩
abbrev main_call2_call0_call0_c_15 : Ref sig .tc := ⟨.hbm, 237, rfl⟩
abbrev main_call2_call0_call0_v62 : Ref sig .tc := ⟨.hbm, 238, rfl⟩
abbrev main_call2_call0_call0_v63 : Ref sig .tc := ⟨.hbm, 239, rfl⟩
abbrev main_call2_call0_call0_c_16 : Ref sig .tc := ⟨.hbm, 240, rfl⟩
abbrev main_call2_call0_call0_v64 : Ref sig .tc := ⟨.hbm, 241, rfl⟩
abbrev main_call2_call0_call0_v65 : Ref sig .tc := ⟨.hbm, 242, rfl⟩
abbrev main_call2_call0_call0_v66 : Ref sig .tc := ⟨.hbm, 243, rfl⟩
abbrev main_call2_call0_call0_v67 : Ref sig .tc := ⟨.hbm, 244, rfl⟩
abbrev main_call2_call0_call0_v68 : Ref sig .tc := ⟨.hbm, 245, rfl⟩
abbrev main_call2_call0_call0_v69 : Ref sig .tc := ⟨.hbm, 246, rfl⟩
abbrev main_call2_call0_call0_v70 : Ref sig .tc := ⟨.hbm, 247, rfl⟩
abbrev main_call2_call0_call0_v71 : Ref sig .tc := ⟨.hbm, 248, rfl⟩
abbrev main_call2_call0_call0_c_17 : Ref sig .tc := ⟨.hbm, 249, rfl⟩
abbrev main_call2_call0_call0_v72 : Ref sig .tc := ⟨.hbm, 250, rfl⟩
abbrev main_call2_call0_call0_v73 : Ref sig .tc := ⟨.hbm, 251, rfl⟩
abbrev main_call2_call0_call0_v74 : Ref sig .tc := ⟨.hbm, 252, rfl⟩
abbrev main_call2_call0_call0_c_18 : Ref sig .tc := ⟨.hbm, 253, rfl⟩
abbrev main_call2_call0_call0_v75 : Ref sig .tc := ⟨.hbm, 254, rfl⟩
abbrev main_call2_call0_call0_v76 : Ref sig .tc := ⟨.hbm, 255, rfl⟩
abbrev main_call2_call0_call0_c_19 : Ref sig .tc := ⟨.hbm, 256, rfl⟩
abbrev main_call2_call0_call0_v77 : Ref sig .tc := ⟨.hbm, 257, rfl⟩
abbrev main_call2_call0_call0_v78 : Ref sig .tc := ⟨.hbm, 258, rfl⟩
abbrev main_call2_call0_call0_v79 : Ref sig .tc := ⟨.hbm, 259, rfl⟩
abbrev main_call2_call0_call0_v80 : Ref sig .tc := ⟨.hbm, 260, rfl⟩
abbrev main_call2_call0_call0_v81 : Ref sig .tc := ⟨.hbm, 261, rfl⟩
abbrev main_call2_call0_call0_c_20 : Ref sig .tc := ⟨.hbm, 262, rfl⟩
abbrev main_call2_call0_call0_v82 : Ref sig .tc := ⟨.hbm, 263, rfl⟩
abbrev main_call2_call0_call0_v83 : Ref sig .tc := ⟨.hbm, 264, rfl⟩
abbrev main_call2_call0_call0_c_21 : Ref sig .tc := ⟨.hbm, 265, rfl⟩
abbrev main_call2_call0_call0_v84 : Ref sig .tc := ⟨.hbm, 266, rfl⟩
abbrev main_call2_call0_call0_v85 : Ref sig .tc := ⟨.hbm, 267, rfl⟩
abbrev main_call2_call0_call0_v86 : Ref sig .tc := ⟨.hbm, 268, rfl⟩
abbrev main_call2_call0_call0_v87 : Ref sig .tc := ⟨.hbm, 269, rfl⟩
abbrev main_call2_call0_call0_v88 : Ref sig .tc := ⟨.hbm, 270, rfl⟩
abbrev main_call2_call0_call0_c_22 : Ref sig .tc := ⟨.hbm, 271, rfl⟩
abbrev main_call2_call0_call0_v89 : Ref sig .tc := ⟨.hbm, 272, rfl⟩
abbrev main_call2_call0_call0_v90 : Ref sig .tc := ⟨.hbm, 273, rfl⟩
abbrev main_call2_call0_call0_c_23 : Ref sig .tc := ⟨.hbm, 274, rfl⟩
abbrev main_call2_call0_call0_v91 : Ref sig .tc := ⟨.hbm, 275, rfl⟩
abbrev main_call2_call0_call0_v92 : Ref sig .tc := ⟨.hbm, 276, rfl⟩
abbrev main_call2_call0_call0_v93 : Ref sig .tc := ⟨.hbm, 277, rfl⟩
abbrev main_call2_call0_call0_v94 : Ref sig .tc := ⟨.hbm, 278, rfl⟩
abbrev main_call2_call0_call0_v95 : Ref sig .tc := ⟨.hbm, 279, rfl⟩
abbrev main_call2_call0_call0_c_24 : Ref sig .tc := ⟨.hbm, 280, rfl⟩
abbrev main_call2_call0_call0_v96 : Ref sig .tc := ⟨.hbm, 281, rfl⟩
abbrev main_call2_call0_call0_v97 : Ref sig .tc := ⟨.hbm, 282, rfl⟩
abbrev main_call2_call0_call0_c_25 : Ref sig .tc := ⟨.hbm, 283, rfl⟩
abbrev main_call2_call0_call0_v98 : Ref sig .tc := ⟨.hbm, 284, rfl⟩
abbrev main_call2_call0_call0_v99 : Ref sig .tc := ⟨.hbm, 285, rfl⟩
abbrev main_call2_call0_call0_v100 : Ref sig .tc := ⟨.hbm, 286, rfl⟩
abbrev main_call2_call0_call0_v101 : Ref sig .tc := ⟨.hbm, 287, rfl⟩
abbrev main_call2_call0_call0_v102 : Ref sig .tc := ⟨.hbm, 288, rfl⟩
abbrev main_call2_call0_call0_v103 : Ref sig .tc := ⟨.hbm, 289, rfl⟩
abbrev main_call2_call0_call0_v104 : Ref sig .tc := ⟨.hbm, 290, rfl⟩
abbrev main_call2_call0_call0_v105 : Ref sig .tc := ⟨.hbm, 291, rfl⟩
abbrev main_call2_call0_call0_c_26 : Ref sig .tc := ⟨.hbm, 292, rfl⟩
abbrev main_call2_call0_call0_v106 : Ref sig .tc := ⟨.hbm, 293, rfl⟩
abbrev main_call2_call0_call0_v107 : Ref sig .tc := ⟨.hbm, 294, rfl⟩
abbrev main_call2_call0_call0_v108 : Ref sig .tc := ⟨.hbm, 295, rfl⟩
abbrev main_call2_call0_call0_c_27 : Ref sig .tc := ⟨.hbm, 296, rfl⟩
abbrev main_call2_call0_call0_v109 : Ref sig .tc := ⟨.hbm, 297, rfl⟩
abbrev main_call2_call0_call0_v110 : Ref sig .tc := ⟨.hbm, 298, rfl⟩
abbrev main_call2_call0_call0_c_28 : Ref sig .tc := ⟨.hbm, 299, rfl⟩
abbrev main_call2_call0_call0_v111 : Ref sig .tc := ⟨.hbm, 300, rfl⟩
abbrev main_call2_call0_call0_v112 : Ref sig .tc := ⟨.hbm, 301, rfl⟩
abbrev main_call2_call0_call0_v113 : Ref sig .tc := ⟨.hbm, 302, rfl⟩
abbrev main_call2_call0_call0_v114 : Ref sig .tc := ⟨.hbm, 303, rfl⟩
abbrev main_call2_call0_call0_v115 : Ref sig .tc := ⟨.hbm, 304, rfl⟩
abbrev main_call2_call0_call0_c_29 : Ref sig .tc := ⟨.hbm, 305, rfl⟩
abbrev main_call2_call0_call0_v116 : Ref sig .tc := ⟨.hbm, 306, rfl⟩
abbrev main_call2_call0_call0_v117 : Ref sig .tc := ⟨.hbm, 307, rfl⟩
abbrev main_call2_call0_call0_c_30 : Ref sig .tc := ⟨.hbm, 308, rfl⟩
abbrev main_call2_call0_call0_v118 : Ref sig .tc := ⟨.hbm, 309, rfl⟩
abbrev main_call2_call0_call0_v119 : Ref sig .tc := ⟨.hbm, 310, rfl⟩
abbrev main_call2_call0_call0_v120 : Ref sig .tc := ⟨.hbm, 311, rfl⟩
abbrev main_call2_call0_call0_v121 : Ref sig .tc := ⟨.hbm, 312, rfl⟩
abbrev main_call2_call0_call0_v122 : Ref sig .tc := ⟨.hbm, 313, rfl⟩
abbrev main_call2_call0_call0_c_31 : Ref sig .tc := ⟨.hbm, 314, rfl⟩
abbrev main_call2_call0_call0_v123 : Ref sig .tc := ⟨.hbm, 315, rfl⟩
abbrev main_call2_call0_call0_v124 : Ref sig .tc := ⟨.hbm, 316, rfl⟩
abbrev main_call2_call0_call0_c_32 : Ref sig .tc := ⟨.hbm, 317, rfl⟩
abbrev main_call2_call0_call0_v125 : Ref sig .tc := ⟨.hbm, 318, rfl⟩
abbrev main_call2_call0_call0_v126 : Ref sig .tc := ⟨.hbm, 319, rfl⟩
abbrev main_call2_call0_call0_v127 : Ref sig .tc := ⟨.hbm, 320, rfl⟩
abbrev main_call2_call0_call0_v128 : Ref sig .tc := ⟨.hbm, 321, rfl⟩
abbrev main_call2_call0_call0_v129 : Ref sig .tc := ⟨.hbm, 322, rfl⟩
abbrev main_call2_call0_call0_c_33 : Ref sig .tc := ⟨.hbm, 323, rfl⟩
abbrev main_call2_call0_call0_v130 : Ref sig .tc := ⟨.hbm, 324, rfl⟩
abbrev main_call2_call0_call0_v131 : Ref sig .tc := ⟨.hbm, 325, rfl⟩
abbrev main_call2_call0_call0_c_34 : Ref sig .tc := ⟨.hbm, 326, rfl⟩
abbrev main_call2_call0_call0_v132 : Ref sig .tc := ⟨.hbm, 327, rfl⟩
abbrev main_call2_call0_call0_v133 : Ref sig .tc := ⟨.hbm, 328, rfl⟩
abbrev main_call2_call0_call0_v134 : Ref sig .tc := ⟨.hbm, 329, rfl⟩
abbrev main_call2_call0_call0_v135 : Ref sig .tc := ⟨.hbm, 330, rfl⟩
abbrev main_call2_call0_call0_v136 : Ref sig .tc := ⟨.hbm, 331, rfl⟩
abbrev main_call2_call0_call0_v137 : Ref sig .tc := ⟨.hbm, 332, rfl⟩
abbrev main_call2_call0_call0_v138 : Ref sig .tc := ⟨.hbm, 333, rfl⟩
abbrev main_call2_call0_call0_v139 : Ref sig .tc := ⟨.hbm, 334, rfl⟩
abbrev main_call2_call0_call0_c_35 : Ref sig .tc := ⟨.hbm, 335, rfl⟩
abbrev main_call2_call0_call0_v140 : Ref sig .tc := ⟨.hbm, 336, rfl⟩
abbrev main_call2_call0_call0_v141 : Ref sig .tc := ⟨.hbm, 337, rfl⟩
abbrev main_call2_call0_call0_v142 : Ref sig .tc := ⟨.hbm, 338, rfl⟩
abbrev main_call2_call0_call0_c_36 : Ref sig .tc := ⟨.hbm, 339, rfl⟩
abbrev main_call2_call0_call0_v143 : Ref sig .tc := ⟨.hbm, 340, rfl⟩
abbrev main_call2_call0_call0_v144 : Ref sig .tc := ⟨.hbm, 341, rfl⟩
abbrev main_call2_call0_call0_c_37 : Ref sig .tc := ⟨.hbm, 342, rfl⟩
abbrev main_call2_call0_call0_v145 : Ref sig .tc := ⟨.hbm, 343, rfl⟩
abbrev main_call2_call0_call0_v146 : Ref sig .tc := ⟨.hbm, 344, rfl⟩
abbrev main_call2_call0_call0_v147 : Ref sig .tc := ⟨.hbm, 345, rfl⟩
abbrev main_call2_call0_call0_v148 : Ref sig .tc := ⟨.hbm, 346, rfl⟩
abbrev main_call2_call0_call0_v149 : Ref sig .tc := ⟨.hbm, 347, rfl⟩
abbrev main_call2_call0_call0_c_38 : Ref sig .tc := ⟨.hbm, 348, rfl⟩
abbrev main_call2_call0_call0_v150 : Ref sig .tc := ⟨.hbm, 349, rfl⟩
abbrev main_call2_call0_call0_v151 : Ref sig .tc := ⟨.hbm, 350, rfl⟩
abbrev main_call2_call0_call0_c_39 : Ref sig .tc := ⟨.hbm, 351, rfl⟩
abbrev main_call2_call0_call0_v152 : Ref sig .tc := ⟨.hbm, 352, rfl⟩
abbrev main_call2_call0_call0_v153 : Ref sig .tc := ⟨.hbm, 353, rfl⟩
abbrev main_call2_call0_call0_v154 : Ref sig .tc := ⟨.hbm, 354, rfl⟩
abbrev main_call2_call0_call0_v155 : Ref sig .tc := ⟨.hbm, 355, rfl⟩
abbrev main_call2_call0_call0_v156 : Ref sig .tc := ⟨.hbm, 356, rfl⟩
abbrev main_call2_call0_call0_c_40 : Ref sig .tc := ⟨.hbm, 357, rfl⟩
abbrev main_call2_call0_call0_v157 : Ref sig .tc := ⟨.hbm, 358, rfl⟩
abbrev main_call2_call0_call0_v158 : Ref sig .tc := ⟨.hbm, 359, rfl⟩
abbrev main_call2_call0_call0_c_41 : Ref sig .tc := ⟨.hbm, 360, rfl⟩
abbrev main_call2_call0_call0_v159 : Ref sig .tc := ⟨.hbm, 361, rfl⟩
abbrev main_call2_call0_call0_v160 : Ref sig .tc := ⟨.hbm, 362, rfl⟩
abbrev main_call2_call0_call0_v161 : Ref sig .tc := ⟨.hbm, 363, rfl⟩
abbrev main_call2_call0_call0_v162 : Ref sig .tc := ⟨.hbm, 364, rfl⟩
abbrev main_call2_call0_call0_v163 : Ref sig .tc := ⟨.hbm, 365, rfl⟩
abbrev main_call2_call0_call0_c_42 : Ref sig .tc := ⟨.hbm, 366, rfl⟩
abbrev main_call2_call0_call0_v164 : Ref sig .tc := ⟨.hbm, 367, rfl⟩
abbrev main_call2_call0_call0_v165 : Ref sig .tc := ⟨.hbm, 368, rfl⟩
abbrev main_call2_call0_call0_c_43 : Ref sig .tc := ⟨.hbm, 369, rfl⟩
abbrev main_call2_call0_call0_v166 : Ref sig .tc := ⟨.hbm, 370, rfl⟩
abbrev main_call2_call0_call0_v167 : Ref sig .tc := ⟨.hbm, 371, rfl⟩
abbrev main_call2_call0_call0_v168 : Ref sig .tc := ⟨.hbm, 372, rfl⟩
abbrev main_call2_call0_call0_v169 : Ref sig .tc := ⟨.hbm, 373, rfl⟩
abbrev main_call2_call0_call0_v170 : Ref sig .tc := ⟨.hbm, 374, rfl⟩
abbrev main_call2_call0_v18_0 : Ref sig .tc := ⟨.hbm, 375, rfl⟩
abbrev main_call2_call0_call0_v172 : Ref sig .tc := ⟨.hbm, 376, rfl⟩
abbrev main_call2_call0_call0_v173 : Ref sig .tc := ⟨.hbm, 377, rfl⟩
abbrev main_call2_call0_call0_c_44 : Ref sig .tc := ⟨.hbm, 378, rfl⟩
abbrev main_call2_call0_call0_v174 : Ref sig .tc := ⟨.hbm, 379, rfl⟩
abbrev main_call2_call0_v18_1 : Ref sig .tc := ⟨.hbm, 380, rfl⟩
abbrev main_call2_call0_v19 : Ref sig .tc := ⟨.hbm, 381, rfl⟩
abbrev main_call2_call0_c_2 : Ref sig .tc := ⟨.hbm, 382, rfl⟩
abbrev main_call2_call0_v20 : Ref sig .tc := ⟨.hbm, 383, rfl⟩
abbrev main_call2_call0_v21 : Ref sig .tc := ⟨.hbm, 384, rfl⟩
abbrev main_call2_call0_c_3 : Ref sig .tc := ⟨.hbm, 385, rfl⟩
abbrev main_call2_call0_v22 : Ref sig .tc := ⟨.hbm, 386, rfl⟩
abbrev main_call2_call0_v23 : Ref sig .tc := ⟨.hbm, 387, rfl⟩
abbrev main_call2_call0_v24 : Ref sig .tc := ⟨.hbm, 388, rfl⟩
abbrev main_call2_call0_cst : Ref sig .tc := ⟨.hbm, 389, rfl⟩
abbrev main_call2_call0_v25 : Ref sig .tc := ⟨.hbm, 390, rfl⟩
abbrev main_call2_call0_v26 : Ref sig .tc := ⟨.hbm, 391, rfl⟩
abbrev main_call2_call0_v27 : Ref sig .tc := ⟨.hbm, 392, rfl⟩
abbrev main_call2_call0_v28 : Ref sig .tc := ⟨.hbm, 393, rfl⟩
abbrev main_call2_call0_v29 : Ref sig .tc := ⟨.hbm, 394, rfl⟩
abbrev main_call2_call0_v30 : Ref sig .tc := ⟨.hbm, 395, rfl⟩
abbrev main_call2_call0_v31 : Ref sig .tc := ⟨.hbm, 396, rfl⟩
abbrev main_call2_call0_v32 : Ref sig .tc := ⟨.hbm, 397, rfl⟩
abbrev main_call2_v0 : Ref sig .tc := ⟨.hbm, 398, rfl⟩
abbrev main_call2_v1 : Ref sig .tc := ⟨.hbm, 399, rfl⟩
abbrev main_call2_v2 : Ref sig .tc := ⟨.hbm, 400, rfl⟩
abbrev main_call2_v3 : Ref sig .tc := ⟨.hbm, 401, rfl⟩
abbrev main_v105 : Ref sig .tc := ⟨.hbm, 402, rfl⟩
abbrev main_v106 : Ref sig .tc := ⟨.hbm, 403, rfl⟩
abbrev main_call3_v0 : Ref sig .tc := ⟨.hbm, 404, rfl⟩
abbrev main_call3_cst : Ref sig .tc := ⟨.hbm, 405, rfl⟩
abbrev main_call3_c : Ref sig .tc := ⟨.hbm, 406, rfl⟩
abbrev main_call3_v1_0 : Ref sig .tc := ⟨.hbm, 407, rfl⟩
abbrev main_v107 : Ref sig .tc := ⟨.hbm, 408, rfl⟩
abbrev main_v108 : Ref sig .tc := ⟨.hbm, 409, rfl⟩
abbrev main_v109 : Ref sig .tc := ⟨.hbm, 410, rfl⟩
abbrev main_call4_c : Ref sig .tc := ⟨.hbm, 411, rfl⟩
abbrev main_call4_v0 : Ref sig .tc := ⟨.hbm, 412, rfl⟩
abbrev main_call4_v1 : Ref sig .tc := ⟨.hbm, 413, rfl⟩
abbrev main_call4_c_0 : Ref sig .tc := ⟨.hbm, 414, rfl⟩
abbrev main_call4_v2 : Ref sig .tc := ⟨.hbm, 415, rfl⟩
abbrev main_call4_v3 : Ref sig .tc := ⟨.hbm, 416, rfl⟩
abbrev main_call4_v4 : Ref sig .tc := ⟨.hbm, 417, rfl⟩
abbrev main_call4_v5 : Ref sig .tc := ⟨.hbm, 418, rfl⟩
abbrev main_call4_c_1 : Ref sig .tc := ⟨.hbm, 419, rfl⟩
abbrev main_call4_c_2 : Ref sig .tc := ⟨.hbm, 420, rfl⟩
abbrev main_call4_v6 : Ref sig .tc := ⟨.hbm, 421, rfl⟩
abbrev main_call4_v7 : Ref sig .tc := ⟨.hbm, 422, rfl⟩
abbrev main_call4_v8 : Ref sig .tc := ⟨.hbm, 423, rfl⟩
abbrev main_call4_v9 : Ref sig .tc := ⟨.hbm, 424, rfl⟩
abbrev main_call4_v10 : Ref sig .tc := ⟨.hbm, 425, rfl⟩
abbrev main_call4_v11 : Ref sig .tc := ⟨.hbm, 426, rfl⟩
abbrev main_call4_c_3 : Ref sig .tc := ⟨.hbm, 427, rfl⟩
abbrev main_call4_v12 : Ref sig .tc := ⟨.hbm, 428, rfl⟩
abbrev main_call4_v13 : Ref sig .tc := ⟨.hbm, 429, rfl⟩
abbrev main_call4_cst : Ref sig .tc := ⟨.hbm, 430, rfl⟩
abbrev main_call4_v14 : Ref sig .tc := ⟨.hbm, 431, rfl⟩
abbrev main_v110 : Ref sig .tc := ⟨.hbm, 432, rfl⟩
abbrev main_v111 : Ref sig .tc := ⟨.hbm, 433, rfl⟩
abbrev main_call5_c : Ref sig .tc := ⟨.hbm, 434, rfl⟩
abbrev main_call5_v0 : Ref sig .tc := ⟨.hbm, 435, rfl⟩
abbrev main_call5_v1 : Ref sig .tc := ⟨.hbm, 436, rfl⟩
abbrev main_call5_c_0 : Ref sig .tc := ⟨.hbm, 437, rfl⟩
abbrev main_call5_v2 : Ref sig .tc := ⟨.hbm, 438, rfl⟩
abbrev main_call5_v3 : Ref sig .tc := ⟨.hbm, 439, rfl⟩
abbrev main_call5_v4 : Ref sig .tc := ⟨.hbm, 440, rfl⟩
abbrev main_call5_v5 : Ref sig .tc := ⟨.hbm, 441, rfl⟩
abbrev main_call5_c_1 : Ref sig .tc := ⟨.hbm, 442, rfl⟩
abbrev main_call5_c_2 : Ref sig .tc := ⟨.hbm, 443, rfl⟩
abbrev main_call5_v6 : Ref sig .tc := ⟨.hbm, 444, rfl⟩
abbrev main_call5_v7 : Ref sig .tc := ⟨.hbm, 445, rfl⟩
abbrev main_call5_v8 : Ref sig .tc := ⟨.hbm, 446, rfl⟩
abbrev main_call5_v9 : Ref sig .tc := ⟨.hbm, 447, rfl⟩
abbrev main_call5_v10 : Ref sig .tc := ⟨.hbm, 448, rfl⟩
abbrev main_call5_v11 : Ref sig .tc := ⟨.hbm, 449, rfl⟩
abbrev main_call5_c_3 : Ref sig .tc := ⟨.hbm, 450, rfl⟩
abbrev main_call5_v12 : Ref sig .tc := ⟨.hbm, 451, rfl⟩
abbrev main_call5_v13 : Ref sig .tc := ⟨.hbm, 452, rfl⟩
abbrev main_call5_cst : Ref sig .tc := ⟨.hbm, 453, rfl⟩
abbrev main_call5_v14 : Ref sig .tc := ⟨.hbm, 454, rfl⟩
abbrev main_v112 : Ref sig .tc := ⟨.hbm, 455, rfl⟩
abbrev main_v113 : Ref sig .tc := ⟨.hbm, 456, rfl⟩

abbrev nD : Nat := 1
abbrev τ : Topo := Topo.v7x

variable {F : FTy → Type} [FloatOps F]
-- ==== Proof.Lockstep.lean ====
/-
  Two straight lines of host operations in lockstep. The noise of the sampler is drawn by one library function that
  both programs call: the same operations in the same order, on buffers of two signatures. A `Step` is one such
  operation with a typed reference of each signature for every operand; `check` runs over a list of steps with the
  pairs of references already known to agree, and asks that each step read known pairs only and write a fresh one.
  `lockstep`: where `check` answers yes, the two lines leave equal contents at every pair known at the end.
-/
module

public import Idealize.ShloMosaic.Lib.StableHlo.Run

@[expose] public section

noncomputable section

namespace Cert.Proof.Lockstep

open Idealize.ShloMosaic Idealize.ShloMosaic.StableHlo

/-- One value of type `T` with its buffer in either signature. -/
structure Cell (A B : RefSig) (T : BufTy) where
  /-- its buffer in the first signature -/
  l : TRef A T
  /-- its buffer in the second -/
  r : TRef B T

/-- One operation stated on cells: its operands, its result, its function. -/
inductive Step (A B : RefSig) (Val : EltTy → Type) : Type
  | nullary {T : BufTy} (y : Cell A B T) (v : T.Contents Val)
  | unary {S T : BufTy} (x : Cell A B S) (y : Cell A B T) (f : S.Contents Val → T.Contents Val)
  | binary {S S' T : BufTy} (x : Cell A B S) (x' : Cell A B S') (y : Cell A B T)
      (f : S.Contents Val → S'.Contents Val → T.Contents Val)
  | reshape {S T : BufTy} (x : Cell A B S) (y : Cell A B T) (he : S.elt = T.elt) (hn : S.shape.ShapeCasts T.shape)

variable {A B : RefSig} {Val : EltTy → Type} {τ τ' : Topo}

/-- The operation on the first signature's buffers. -/
abbrev Step.left : Step A B Val → HloOp τ A Val
  | .nullary y v => TRef.nullary y.l v
  | .unary x y f => TRef.unary x.l y.l f
  | .binary x x' y f => TRef.binary x.l x'.l y.l f
  | .reshape x y he hn => TRef.reshape x.l y.l he hn

/-- The operation on the second signature's buffers. -/
abbrev Step.right : Step A B Val → HloOp τ' B Val
  | .nullary y v => TRef.nullary y.r v
  | .unary x y f => TRef.unary x.r y.r f
  | .binary x x' y f => TRef.binary x.r x'.r y.r f
  | .reshape x y he hn => TRef.reshape x.r y.r he hn

/-- The pair of buffers a cell stands for. -/
abbrev Cell.pair {T : BufTy} (x : Cell A B T) : Ref A .tc × Ref B .tc := (x.l.ref, x.r.ref)

/-- The pairs a step reads. -/
def Step.reads : Step A B Val → List (Ref A .tc × Ref B .tc)
  | .nullary _ _ => []
  | .unary x _ _ => [x.pair]
  | .binary x x' _ _ => [x.pair, x'.pair]
  | .reshape x _ _ _ => [x.pair]

/-- The pair a step writes. -/
def Step.dst : Step A B Val → Ref A .tc × Ref B .tc
  | .nullary y _ => y.pair
  | .unary _ y _ => y.pair
  | .binary _ _ y _ => y.pair
  | .reshape _ y _ _ => y.pair

/-- The pairs known after the steps, from those known before. -/
def known : List (Ref A .tc × Ref B .tc) → List (Step A B Val) → List (Ref A .tc × Ref B .tc)
  | K, [] => K
  | K, s :: ss => known (s.dst :: K) ss

/-- Every step reads known pairs and writes a pair neither side of which is known. -/
def check : List (Ref A .tc × Ref B .tc) → List (Step A B Val) → Bool
  | _, [] => true
  | K, s :: ss =>
    s.reads.all (fun p => decide (p ∈ K)) && K.all (fun p => decide (p.1 ≠ s.dst.1) && decide (p.2 ≠ s.dst.2))
      && check (s.dst :: K) ss

/-- The two valuations hold equal contents at every pair of the list. -/
def Agree (K : List (Ref A .tc × Ref B .tc)) (V : Valuation τ A Val) (W : Valuation τ' B Val) : Prop :=
  ∀ p ∈ K, HEq (V (Proc.devRef .tc p.1)) (W (Proc.devRef .tc p.2))

/-- Equal contents at a cell's two buffers are one value of the cell's type. -/
theorem ofBuf_eq {T : BufTy} (x : Cell A B T) {V : Valuation τ A Val} {W : Valuation τ' B Val}
    (h : HEq (V (Proc.devRef .tc x.l.ref)) (W (Proc.devRef .tc x.r.ref))) :
    x.l.ofBuf (V (Proc.devRef .tc x.l.ref)) = x.r.ofBuf (W (Proc.devRef .tc x.r.ref)) :=
  eq_of_heq ((cast_heq _ _).trans (h.trans (cast_heq _ _).symm))

/-- One value written to a cell's two buffers is equal contents there. -/
theorem toBuf_heq {T : BufTy} (y : Cell A B T) {v w : T.Contents Val} (h : v = w) : HEq (y.l.toBuf v) (y.r.toBuf w) := by
  subst h
  exact (cast_heq _ _).trans (cast_heq _ _).symm

/-- Reshaping equal contents gives equal contents, whatever names the types have. -/
theorem reshape_heq {S S' T T' : BufTy} (hS : S = S') (hT : T = T') (he : S.elt = T.elt) (he' : S'.elt = T'.elt)
    (hn : S.shape.ShapeCasts T.shape) (hn' : S'.shape.ShapeCasts T'.shape) {v : S.Contents Val} {v' : S'.Contents Val}
    (h : HEq v v') :
    HEq (fun i => he ▸ shapeCast T.shape v hn i : T.Contents Val) (fun i => he' ▸ shapeCast T'.shape v' hn' i : T'.Contents Val) := by
  subst hS hT
  cases h
  rfl

/-- The two operations of a step, run where the pairs it reads agree, leave equal contents at the pair it writes. -/
theorem dst_heq (s : Step A B Val) {V : Valuation τ A Val} {W : Valuation τ' B Val} (h : Agree s.reads V W) :
    HEq (s.left.result V (Proc.devRef .tc s.dst.1)) (s.right.result W (Proc.devRef .tc s.dst.2)) := by
  cases s with
  | nullary y v =>
    refine (heq_of_eq (nullary_result _ _ _ V)).trans ((toBuf_heq y rfl).trans (heq_of_eq (nullary_result _ _ _ W).symm))
  | unary x y f =>
    have hl := unary_result (τ := τ) x.l.ref y.l.ref (fun u => y.l.toBuf (f (x.l.ofBuf u))) x.l.dev y.l.dev V
    have hr := unary_result (τ := τ') x.r.ref y.r.ref (fun u => y.r.toBuf (f (x.r.ofBuf u))) x.r.dev y.r.dev W
    refine (heq_of_eq hl).trans ((toBuf_heq y ?_).trans (heq_of_eq hr.symm))
    rw [ofBuf_eq x (h _ (List.mem_cons_self ..))]
  | binary x x' y f =>
    have hl := binary_result (τ := τ) x.l.ref x'.l.ref y.l.ref
      (fun u v => y.l.toBuf (f (x.l.ofBuf u) (x'.l.ofBuf v))) x.l.dev x'.l.dev y.l.dev V
    have hr := binary_result (τ := τ') x.r.ref x'.r.ref y.r.ref
      (fun u v => y.r.toBuf (f (x.r.ofBuf u) (x'.r.ofBuf v))) x.r.dev x'.r.dev y.r.dev W
    refine (heq_of_eq hl).trans ((toBuf_heq y ?_).trans (heq_of_eq hr.symm))
    rw [ofBuf_eq x (h _ (List.mem_cons_self ..)), ofBuf_eq x' (h _ (List.mem_cons_of_mem _ (List.mem_cons_self ..)))]
  | reshape x y he hn =>
    refine (heq_of_eq (reshape_result _ _ _ _ _ _ V)).trans
      ((reshape_heq (x.l.ty_eq.trans x.r.ty_eq.symm) (y.l.ty_eq.trans y.r.ty_eq.symm) _ _ _ _ ?_).trans
        (heq_of_eq (reshape_result _ _ _ _ _ _ W).symm))
    exact h _ (List.mem_cons_self ..)

/-- The first operation of a step changes no buffer but the one it writes. -/
theorem left_ne (s : Step A B Val) (V : Valuation τ A Val) {r : Ref A .tc} (h : r ≠ s.dst.1) :
    s.left.result V (Proc.devRef .tc r) = V (Proc.devRef .tc r) := by
  cases s with
  | nullary y v => exact nullary_result_ne _ _ _ V h
  | unary x y f => exact unary_result_ne _ _ _ _ _ V h
  | binary x x' y f => exact binary_result_ne _ _ _ _ _ _ _ V h
  | reshape x y he hn => exact reshape_result_ne _ _ _ _ _ _ V h

/-- Nor does the second. -/
theorem right_ne (s : Step A B Val) (W : Valuation τ' B Val) {r : Ref B .tc} (h : r ≠ s.dst.2) :
    s.right.result W (Proc.devRef .tc r) = W (Proc.devRef .tc r) := by
  cases s with
  | nullary y v => exact nullary_result_ne _ _ _ W h
  | unary x y f => exact unary_result_ne _ _ _ _ _ W h
  | binary x x' y f => exact binary_result_ne _ _ _ _ _ _ _ W h
  | reshape x y he hn => exact reshape_result_ne _ _ _ _ _ _ W h

/-- Two lines of checked steps, run from contents that agree at the known pairs, end agreeing at every pair known then. -/
theorem lockstep : ∀ (ss : List (Step A B Val)) (K : List (Ref A .tc × Ref B .tc)) (V : Valuation τ A Val)
    (W : Valuation τ' B Val), check K ss = true → Agree K V W →
      Agree (known K ss) (after (ss.map Step.left) V) (after (ss.map Step.right) W)
  | [], _, _, _, _, h => h
  | s :: ss, K, V, W, hc, h => by
    rw [check, Bool.and_eq_true, Bool.and_eq_true, List.all_eq_true, List.all_eq_true] at hc
    obtain ⟨⟨hr, hf⟩, hrest⟩ := hc
    refine lockstep ss (s.dst :: K) (s.left.result V) (s.right.result W) hrest ?_
    intro p hp
    rcases List.mem_cons.mp hp with rfl | hp
    · exact dst_heq s fun q hq => h q (of_decide_eq_true (hr q hq))
    · have hpf := hf p hp
      rw [Bool.and_eq_true] at hpf
      rw [left_ne s V (of_decide_eq_true hpf.1), right_ne s W (of_decide_eq_true hpf.2)]
      exact h p hp

/-- The buffers the first line writes are the steps' own. -/
theorem writes_left (ss : List (Step A B Val)) :
    (ss.map (Step.left (τ := τ))).map HloOp.writes
      = (ss.map fun s => s.dst.1).map fun w => {Proc.devRef (τ := τ) .tc w} := by
  induction ss with
  | nil => rfl
  | cons s ss ih =>
    refine congrArg₂ List.cons ?_ ih
    cases s <;> rfl

/-- The buffers the second line writes are the steps' own. -/
theorem writes_right (ss : List (Step A B Val)) :
    (ss.map (Step.right (τ' := τ'))).map HloOp.writes
      = (ss.map fun s => s.dst.2).map fun w => {Proc.devRef (τ := τ') .tc w} := by
  induction ss with
  | nil => rfl
  | cons s ss ih =>
    refine congrArg₂ List.cons ?_ ih
    cases s <;> rfl

/-- Every operation of the second line touches references of the TensorCore. -/
theorem right_sub (ss : List (Step A B Val)) :
    (ss.map (Step.right (τ' := τ'))).Forall fun op => op.bufs ⊆ tcRefs τ' B := by
  rw [List.forall_iff_forall_mem]
  intro op hop
  obtain ⟨s, _, rfl⟩ := List.mem_map.mp hop
  cases s with
  | nullary y v => exact nullary_bufs_sub ..
  | unary x y f => exact unary_bufs_sub ..
  | binary x x' y f => exact binary_bufs_sub ..
  | reshape x y he hn => exact reshape_bufs_sub ..

/-- Every operation of the second line determines its result. -/
theorem right_fresh (ss : List (Step A B Val)) : ∀ op ∈ ss.map (Step.right (τ' := τ')), op.fresh = ∅ := by
  intro op hop
  obtain ⟨s, _, rfl⟩ := List.mem_map.mp hop
  cases s <;> rfl

end Cert.Proof.Lockstep

end
-- ==== Proof.Noise.lean ====
/-
  The sampler's noise is one value. Both programs draw it by the same library function from the same key — the
  threefry hash of the key and a counter, the mantissa bits as a uniform number, the double logarithm — on buffers of
  their own signatures. `noise` is that function's operations, each stated once with the buffers of both programs;
  the kernel program's stretch of host operations is its first reading (`left_eq`), the reference's calls its second.
  Nothing of the hash is evaluated: `Lockstep.lockstep` ties the two ends.
-/
module

public import proofs.«01_k».proof.Proof.Lockstep
public import proofs.«01_k».proof.Proof.Gen.KernelIdeal.Launch
public import proofs.«01_k».proof.Proof.Gen.ReferenceIdeal

@[expose] public section

set_option maxRecDepth 4000

noncomputable section

namespace Cert.Proof.Noise

open Cert.KernelIdeal Cert.KernelIdeal.Gen Cert.Proof.Lockstep
open Idealize.ShloMosaic Idealize.ShloMosaic.TcCoe Idealize.ShloMosaic.StableHlo

variable {F : FTy → Type} [FloatOps F]

/-- The types of the values between. -/
abbrev F0 : BufTy := ⟨S_, .f32⟩
abbrev F1 : BufTy := ⟨S1x1, .f32⟩
abbrev FA : BufTy := ⟨S16384x8, .f32⟩
abbrev I0 : BufTy := ⟨S_, .i32⟩
abbrev I1 : BufTy := ⟨S1, .i32⟩
abbrev I2 : BufTy := ⟨S2, .i32⟩
abbrev IA : BufTy := ⟨S16384x8, .i32⟩
abbrev L0 : BufTy := ⟨S_, .i64⟩
abbrev LA : BufTy := ⟨S16384x8, .i64⟩

/-- The value of type `T` at buffer `k` of the kernel program's HBM and buffer `r` of the reference's. -/
abbrev cell (T : BufTy) (k : Fin (KernelIdeal.sig.nNear .tc .hbm)) (r : Fin (ReferenceIdeal.sig.nNear .tc .hbm))
    (hk : (⟨.hbm, k, rfl⟩ : Ref KernelIdeal.sig .tc).ty = T := by rfl)
    (hr : (⟨.hbm, r, rfl⟩ : Ref ReferenceIdeal.sig .tc).ty = T := by rfl)
    (sk : (⟨.hbm, k, rfl⟩ : Ref KernelIdeal.sig .tc).isScoped = false := by rfl)
    (sr : (⟨.hbm, r, rfl⟩ : Ref ReferenceIdeal.sig .tc).isScoped = false := by rfl) :
    Cell KernelIdeal.sig ReferenceIdeal.sig T :=
  ⟨⟨⟨.hbm, k, rfl⟩, hk, (fun h => nomatch h), sk⟩, ⟨⟨.hbm, r, rfl⟩, hr, (fun h => nomatch h), sr⟩⟩

set_option maxHeartbeats 40000000 in
/-- The noise function's operations, in order. -/
abbrev noise : List (Step KernelIdeal.sig ReferenceIdeal.sig (Elt F)) :=
  [
    .nullary (cell F0 30 136) (constant S_ .f32 0x3F800000#32),
    .nullary (cell F0 31 137) (constant S_ .f32 0x00800000#32),
    .unary (cell F0 30 136) (cell F0 32 138) id,
    .unary (cell F0 31 137) (cell F1 33 139) (broadcastInDim S1x1 ![] bcast_S_S1x1),
    .unary (cell F0 32 138) (cell F1 34 140) (broadcastInDim S1x1 ![] bcast_S_S1x1),
    .unary (cell I2 29 131) (cell I1 35 141) (extractStridedSlice S1 ![0] · slices_S2_S1_0),
    .reshape (cell I1 35 141) (cell I0 36 142) (rfl : (.i32 : EltTy) = .i32) shapeCasts_S1_S_,
    .unary (cell I2 29 131) (cell I1 37 143) (extractStridedSlice S1 ![1] · slices_S2_S1_1),
    .reshape (cell I1 37 143) (cell I0 38 144) (rfl : (.i32 : EltTy) = .i32) shapeCasts_S1_S_,
    .nullary (cell LA 39 145) (iotaInDim S16384x8 64 0),
    .nullary (cell LA 40 146) (iotaInDim S16384x8 64 1),
    .nullary (cell L0 41 147) (constantI S_ 64 8#64),
    .unary (cell L0 41 147) (cell LA 42 148) (broadcastInDim S16384x8 ![] bcast_S_S16384x8),
    .binary (cell LA 42 148) (cell LA 39 145) (cell LA 43 149) muli,
    .nullary (cell L0 44 150) (constantI S_ 64 1#64),
    .unary (cell L0 44 150) (cell LA 45 151) (broadcastInDim S16384x8 ![] bcast_S_S16384x8),
    .binary (cell LA 45 151) (cell LA 40 146) (cell LA 46 152) muli,
    .binary (cell LA 43 149) (cell LA 46 152) (cell LA 47 153) addi,
    .nullary (cell L0 48 154) (constantI S_ 64 32#64),
    .unary (cell L0 48 154) (cell LA 49 155) (broadcastInDim S16384x8 ![] bcast_S_S16384x8),
    .binary (cell LA 47 153) (cell LA 49 155) (cell LA 50 156) Host.shrui,
    .unary (cell LA 47 153) (cell IA 51 157) (trunci 32 · natLt_32_64),
    .unary (cell LA 50 156) (cell IA 52 158) (trunci 32 · natLt_32_64),
    .binary (cell I0 36 142) (cell I0 38 144) (cell I0 53 159) xori,
    .nullary (cell I0 54 160) (constantI S_ 32 466688986#32),
    .binary (cell I0 53 159) (cell I0 54 160) (cell I0 55 161) xori,
    .unary (cell I0 36 142) (cell IA 56 162) (broadcastInDim S16384x8 ![] bcast_S_S16384x8),
    .binary (cell IA 52 158) (cell IA 56 162) (cell IA 57 163) addi,
    .unary (cell I0 38 144) (cell IA 58 164) (broadcastInDim S16384x8 ![] bcast_S_S16384x8),
    .binary (cell IA 51 157) (cell IA 58 164) (cell IA 59 165) addi,
    .binary (cell IA 57 163) (cell IA 59 165) (cell IA 60 166) addi,
    .nullary (cell I0 61 167) (constantI S_ 32 13#32),
    .unary (cell I0 61 167) (cell IA 62 168) (broadcastInDim S16384x8 ![] bcast_S_S16384x8),
    .binary (cell IA 59 165) (cell IA 62 168) (cell IA 63 169) Host.shli,
    .nullary (cell I0 64 170) (constantI S_ 32 19#32),
    .unary (cell I0 64 170) (cell IA 65 171) (broadcastInDim S16384x8 ![] bcast_S_S16384x8),
    .binary (cell IA 59 165) (cell IA 65 171) (cell IA 66 172) Host.shrui,
    .binary (cell IA 63 169) (cell IA 66 172) (cell IA 67 173) ori,
    .binary (cell IA 60 166) (cell IA 67 173) (cell IA 68 174) xori,
    .binary (cell IA 60 166) (cell IA 68 174) (cell IA 69 175) addi,
    .nullary (cell I0 70 176) (constantI S_ 32 15#32),
    .unary (cell I0 70 176) (cell IA 71 177) (broadcastInDim S16384x8 ![] bcast_S_S16384x8),
    .binary (cell IA 68 174) (cell IA 71 177) (cell IA 72 178) Host.shli,
    .nullary (cell I0 73 179) (constantI S_ 32 17#32),
    .unary (cell I0 73 179) (cell IA 74 180) (broadcastInDim S16384x8 ![] bcast_S_S16384x8),
    .binary (cell IA 68 174) (cell IA 74 180) (cell IA 75 181) Host.shrui,
    .binary (cell IA 72 178) (cell IA 75 181) (cell IA 76 182) ori,
    .binary (cell IA 69 175) (cell IA 76 182) (cell IA 77 183) xori,
    .binary (cell IA 69 175) (cell IA 77 183) (cell IA 78 184) addi,
    .nullary (cell I0 79 185) (constantI S_ 32 26#32),
    .unary (cell I0 79 185) (cell IA 80 186) (broadcastInDim S16384x8 ![] bcast_S_S16384x8),
    .binary (cell IA 77 183) (cell IA 80 186) (cell IA 81 187) Host.shli,
    .nullary (cell I0 82 188) (constantI S_ 32 6#32),
    .unary (cell I0 82 188) (cell IA 83 189) (broadcastInDim S16384x8 ![] bcast_S_S16384x8),
    .binary (cell IA 77 183) (cell IA 83 189) (cell IA 84 190) Host.shrui,
    .binary (cell IA 81 187) (cell IA 84 190) (cell IA 85 191) ori,
    .binary (cell IA 78 184) (cell IA 85 191) (cell IA 86 192) xori,
    .binary (cell IA 78 184) (cell IA 86 192) (cell IA 87 193) addi,
    .nullary (cell I0 88 194) (constantI S_ 32 6#32),
    .unary (cell I0 88 194) (cell IA 89 195) (broadcastInDim S16384x8 ![] bcast_S_S16384x8),
    .binary (cell IA 86 192) (cell IA 89 195) (cell IA 90 196) Host.shli,
    .nullary (cell I0 91 197) (constantI S_ 32 26#32),
    .unary (cell I0 91 197) (cell IA 92 198) (broadcastInDim S16384x8 ![] bcast_S_S16384x8),
    .binary (cell IA 86 192) (cell IA 92 198) (cell IA 93 199) Host.shrui,
    .binary (cell IA 90 196) (cell IA 93 199) (cell IA 94 200) ori,
    .binary (cell IA 87 193) (cell IA 94 200) (cell IA 95 201) xori,
    .unary (cell I0 38 144) (cell IA 96 202) (broadcastInDim S16384x8 ![] bcast_S_S16384x8),
    .binary (cell IA 87 193) (cell IA 96 202) (cell IA 97 203) addi,
    .unary (cell I0 55 161) (cell IA 98 204) (broadcastInDim S16384x8 ![] bcast_S_S16384x8),
    .binary (cell IA 95 201) (cell IA 98 204) (cell IA 99 205) addi,
    .nullary (cell I0 100 206) (constantI S_ 32 1#32),
    .unary (cell I0 100 206) (cell IA 101 207) (broadcastInDim S16384x8 ![] bcast_S_S16384x8),
    .binary (cell IA 99 205) (cell IA 101 207) (cell IA 102 208) addi,
    .binary (cell IA 97 203) (cell IA 102 208) (cell IA 103 209) addi,
    .nullary (cell I0 104 210) (constantI S_ 32 17#32),
    .unary (cell I0 104 210) (cell IA 105 211) (broadcastInDim S16384x8 ![] bcast_S_S16384x8),
    .binary (cell IA 102 208) (cell IA 105 211) (cell IA 106 212) Host.shli,
    .nullary (cell I0 107 213) (constantI S_ 32 15#32),
    .unary (cell I0 107 213) (cell IA 108 214) (broadcastInDim S16384x8 ![] bcast_S_S16384x8),
    .binary (cell IA 102 208) (cell IA 108 214) (cell IA 109 215) Host.shrui,
    .binary (cell IA 106 212) (cell IA 109 215) (cell IA 110 216) ori,
    .binary (cell IA 103 209) (cell IA 110 216) (cell IA 111 217) xori,
    .binary (cell IA 103 209) (cell IA 111 217) (cell IA 112 218) addi,
    .nullary (cell I0 113 219) (constantI S_ 32 29#32),
    .unary (cell I0 113 219) (cell IA 114 220) (broadcastInDim S16384x8 ![] bcast_S_S16384x8),
    .binary (cell IA 111 217) (cell IA 114 220) (cell IA 115 221) Host.shli,
    .nullary (cell I0 116 222) (constantI S_ 32 3#32),
    .unary (cell I0 116 222) (cell IA 117 223) (broadcastInDim S16384x8 ![] bcast_S_S16384x8),
    .binary (cell IA 111 217) (cell IA 117 223) (cell IA 118 224) Host.shrui,
    .binary (cell IA 115 221) (cell IA 118 224) (cell IA 119 225) ori,
    .binary (cell IA 112 218) (cell IA 119 225) (cell IA 120 226) xori,
    .binary (cell IA 112 218) (cell IA 120 226) (cell IA 121 227) addi,
    .nullary (cell I0 122 228) (constantI S_ 32 16#32),
    .unary (cell I0 122 228) (cell IA 123 229) (broadcastInDim S16384x8 ![] bcast_S_S16384x8),
    .binary (cell IA 120 226) (cell IA 123 229) (cell IA 124 230) Host.shli,
    .nullary (cell I0 125 231) (constantI S_ 32 16#32),
    .unary (cell I0 125 231) (cell IA 126 232) (broadcastInDim S16384x8 ![] bcast_S_S16384x8),
    .binary (cell IA 120 226) (cell IA 126 232) (cell IA 127 233) Host.shrui,
    .binary (cell IA 124 230) (cell IA 127 233) (cell IA 128 234) ori,
    .binary (cell IA 121 227) (cell IA 128 234) (cell IA 129 235) xori,
    .binary (cell IA 121 227) (cell IA 129 235) (cell IA 130 236) addi,
    .nullary (cell I0 131 237) (constantI S_ 32 24#32),
    .unary (cell I0 131 237) (cell IA 132 238) (broadcastInDim S16384x8 ![] bcast_S_S16384x8),
    .binary (cell IA 129 235) (cell IA 132 238) (cell IA 133 239) Host.shli,
    .nullary (cell I0 134 240) (constantI S_ 32 8#32),
    .unary (cell I0 134 240) (cell IA 135 241) (broadcastInDim S16384x8 ![] bcast_S_S16384x8),
    .binary (cell IA 129 235) (cell IA 135 241) (cell IA 136 242) Host.shrui,
    .binary (cell IA 133 239) (cell IA 136 242) (cell IA 137 243) ori,
    .binary (cell IA 130 236) (cell IA 137 243) (cell IA 138 244) xori,
    .unary (cell I0 55 161) (cell IA 139 245) (broadcastInDim S16384x8 ![] bcast_S_S16384x8),
    .binary (cell IA 130 236) (cell IA 139 245) (cell IA 140 246) addi,
    .unary (cell I0 36 142) (cell IA 141 247) (broadcastInDim S16384x8 ![] bcast_S_S16384x8),
    .binary (cell IA 138 244) (cell IA 141 247) (cell IA 142 248) addi,
    .nullary (cell I0 143 249) (constantI S_ 32 2#32),
    .unary (cell I0 143 249) (cell IA 144 250) (broadcastInDim S16384x8 ![] bcast_S_S16384x8),
    .binary (cell IA 142 248) (cell IA 144 250) (cell IA 145 251) addi,
    .binary (cell IA 140 246) (cell IA 145 251) (cell IA 146 252) addi,
    .nullary (cell I0 147 253) (constantI S_ 32 13#32),
    .unary (cell I0 147 253) (cell IA 148 254) (broadcastInDim S16384x8 ![] bcast_S_S16384x8),
    .binary (cell IA 145 251) (cell IA 148 254) (cell IA 149 255) Host.shli,
    .nullary (cell I0 150 256) (constantI S_ 32 19#32),
    .unary (cell I0 150 256) (cell IA 151 257) (broadcastInDim S16384x8 ![] bcast_S_S16384x8),
    .binary (cell IA 145 251) (cell IA 151 257) (cell IA 152 258) Host.shrui,
    .binary (cell IA 149 255) (cell IA 152 258) (cell IA 153 259) ori,
    .binary (cell IA 146 252) (cell IA 153 259) (cell IA 154 260) xori,
    .binary (cell IA 146 252) (cell IA 154 260) (cell IA 155 261) addi,
    .nullary (cell I0 156 262) (constantI S_ 32 15#32),
    .unary (cell I0 156 262) (cell IA 157 263) (broadcastInDim S16384x8 ![] bcast_S_S16384x8),
    .binary (cell IA 154 260) (cell IA 157 263) (cell IA 158 264) Host.shli,
    .nullary (cell I0 159 265) (constantI S_ 32 17#32),
    .unary (cell I0 159 265) (cell IA 160 266) (broadcastInDim S16384x8 ![] bcast_S_S16384x8),
    .binary (cell IA 154 260) (cell IA 160 266) (cell IA 161 267) Host.shrui,
    .binary (cell IA 158 264) (cell IA 161 267) (cell IA 162 268) ori,
    .binary (cell IA 155 261) (cell IA 162 268) (cell IA 163 269) xori,
    .binary (cell IA 155 261) (cell IA 163 269) (cell IA 164 270) addi,
    .nullary (cell I0 165 271) (constantI S_ 32 26#32),
    .unary (cell I0 165 271) (cell IA 166 272) (broadcastInDim S16384x8 ![] bcast_S_S16384x8),
    .binary (cell IA 163 269) (cell IA 166 272) (cell IA 167 273) Host.shli,
    .nullary (cell I0 168 274) (constantI S_ 32 6#32),
    .unary (cell I0 168 274) (cell IA 169 275) (broadcastInDim S16384x8 ![] bcast_S_S16384x8),
    .binary (cell IA 163 269) (cell IA 169 275) (cell IA 170 276) Host.shrui,
    .binary (cell IA 167 273) (cell IA 170 276) (cell IA 171 277) ori,
    .binary (cell IA 164 270) (cell IA 171 277) (cell IA 172 278) xori,
    .binary (cell IA 164 270) (cell IA 172 278) (cell IA 173 279) addi,
    .nullary (cell I0 174 280) (constantI S_ 32 6#32),
    .unary (cell I0 174 280) (cell IA 175 281) (broadcastInDim S16384x8 ![] bcast_S_S16384x8),
    .binary (cell IA 172 278) (cell IA 175 281) (cell IA 176 282) Host.shli,
    .nullary (cell I0 177 283) (constantI S_ 32 26#32),
    .unary (cell I0 177 283) (cell IA 178 284) (broadcastInDim S16384x8 ![] bcast_S_S16384x8),
    .binary (cell IA 172 278) (cell IA 178 284) (cell IA 179 285) Host.shrui,
    .binary (cell IA 176 282) (cell IA 179 285) (cell IA 180 286) ori,
    .binary (cell IA 173 279) (cell IA 180 286) (cell IA 181 287) xori,
    .unary (cell I0 36 142) (cell IA 182 288) (broadcastInDim S16384x8 ![] bcast_S_S16384x8),
    .binary (cell IA 173 279) (cell IA 182 288) (cell IA 183 289) addi,
    .unary (cell I0 38 144) (cell IA 184 290) (broadcastInDim S16384x8 ![] bcast_S_S16384x8),
    .binary (cell IA 181 287) (cell IA 184 290) (cell IA 185 291) addi,
    .nullary (cell I0 186 292) (constantI S_ 32 3#32),
    .unary (cell I0 186 292) (cell IA 187 293) (broadcastInDim S16384x8 ![] bcast_S_S16384x8),
    .binary (cell IA 185 291) (cell IA 187 293) (cell IA 188 294) addi,
    .binary (cell IA 183 289) (cell IA 188 294) (cell IA 189 295) addi,
    .nullary (cell I0 190 296) (constantI S_ 32 17#32),
    .unary (cell I0 190 296) (cell IA 191 297) (broadcastInDim S16384x8 ![] bcast_S_S16384x8),
    .binary (cell IA 188 294) (cell IA 191 297) (cell IA 192 298) Host.shli,
    .nullary (cell I0 193 299) (constantI S_ 32 15#32),
    .unary (cell I0 193 299) (cell IA 194 300) (broadcastInDim S16384x8 ![] bcast_S_S16384x8),
    .binary (cell IA 188 294) (cell IA 194 300) (cell IA 195 301) Host.shrui,
    .binary (cell IA 192 298) (cell IA 195 301) (cell IA 196 302) ori,
    .binary (cell IA 189 295) (cell IA 196 302) (cell IA 197 303) xori,
    .binary (cell IA 189 295) (cell IA 197 303) (cell IA 198 304) addi,
    .nullary (cell I0 199 305) (constantI S_ 32 29#32),
    .unary (cell I0 199 305) (cell IA 200 306) (broadcastInDim S16384x8 ![] bcast_S_S16384x8),
    .binary (cell IA 197 303) (cell IA 200 306) (cell IA 201 307) Host.shli,
    .nullary (cell I0 202 308) (constantI S_ 32 3#32),
    .unary (cell I0 202 308) (cell IA 203 309) (broadcastInDim S16384x8 ![] bcast_S_S16384x8),
    .binary (cell IA 197 303) (cell IA 203 309) (cell IA 204 310) Host.shrui,
    .binary (cell IA 201 307) (cell IA 204 310) (cell IA 205 311) ori,
    .binary (cell IA 198 304) (cell IA 205 311) (cell IA 206 312) xori,
    .binary (cell IA 198 304) (cell IA 206 312) (cell IA 207 313) addi,
    .nullary (cell I0 208 314) (constantI S_ 32 16#32),
    .unary (cell I0 208 314) (cell IA 209 315) (broadcastInDim S16384x8 ![] bcast_S_S16384x8),
    .binary (cell IA 206 312) (cell IA 209 315) (cell IA 210 316) Host.shli,
    .nullary (cell I0 211 317) (constantI S_ 32 16#32),
    .unary (cell I0 211 317) (cell IA 212 318) (broadcastInDim S16384x8 ![] bcast_S_S16384x8),
    .binary (cell IA 206 312) (cell IA 212 318) (cell IA 213 319) Host.shrui,
    .binary (cell IA 210 316) (cell IA 213 319) (cell IA 214 320) ori,
    .binary (cell IA 207 313) (cell IA 214 320) (cell IA 215 321) xori,
    .binary (cell IA 207 313) (cell IA 215 321) (cell IA 216 322) addi,
    .nullary (cell I0 217 323) (constantI S_ 32 24#32),
    .unary (cell I0 217 323) (cell IA 218 324) (broadcastInDim S16384x8 ![] bcast_S_S16384x8),
    .binary (cell IA 215 321) (cell IA 218 324) (cell IA 219 325) Host.shli,
    .nullary (cell I0 220 326) (constantI S_ 32 8#32),
    .unary (cell I0 220 326) (cell IA 221 327) (broadcastInDim S16384x8 ![] bcast_S_S16384x8),
    .binary (cell IA 215 321) (cell IA 221 327) (cell IA 222 328) Host.shrui,
    .binary (cell IA 219 325) (cell IA 222 328) (cell IA 223 329) ori,
    .binary (cell IA 216 322) (cell IA 223 329) (cell IA 224 330) xori,
    .unary (cell I0 38 144) (cell IA 225 331) (broadcastInDim S16384x8 ![] bcast_S_S16384x8),
    .binary (cell IA 216 322) (cell IA 225 331) (cell IA 226 332) addi,
    .unary (cell I0 55 161) (cell IA 227 333) (broadcastInDim S16384x8 ![] bcast_S_S16384x8),
    .binary (cell IA 224 330) (cell IA 227 333) (cell IA 228 334) addi,
    .nullary (cell I0 229 335) (constantI S_ 32 4#32),
    .unary (cell I0 229 335) (cell IA 230 336) (broadcastInDim S16384x8 ![] bcast_S_S16384x8),
    .binary (cell IA 228 334) (cell IA 230 336) (cell IA 231 337) addi,
    .binary (cell IA 226 332) (cell IA 231 337) (cell IA 232 338) addi,
    .nullary (cell I0 233 339) (constantI S_ 32 13#32),
    .unary (cell I0 233 339) (cell IA 234 340) (broadcastInDim S16384x8 ![] bcast_S_S16384x8),
    .binary (cell IA 231 337) (cell IA 234 340) (cell IA 235 341) Host.shli,
    .nullary (cell I0 236 342) (constantI S_ 32 19#32),
    .unary (cell I0 236 342) (cell IA 237 343) (broadcastInDim S16384x8 ![] bcast_S_S16384x8),
    .binary (cell IA 231 337) (cell IA 237 343) (cell IA 238 344) Host.shrui,
    .binary (cell IA 235 341) (cell IA 238 344) (cell IA 239 345) ori,
    .binary (cell IA 232 338) (cell IA 239 345) (cell IA 240 346) xori,
    .binary (cell IA 232 338) (cell IA 240 346) (cell IA 241 347) addi,
    .nullary (cell I0 242 348) (constantI S_ 32 15#32),
    .unary (cell I0 242 348) (cell IA 243 349) (broadcastInDim S16384x8 ![] bcast_S_S16384x8),
    .binary (cell IA 240 346) (cell IA 243 349) (cell IA 244 350) Host.shli,
    .nullary (cell I0 245 351) (constantI S_ 32 17#32),
    .unary (cell I0 245 351) (cell IA 246 352) (broadcastInDim S16384x8 ![] bcast_S_S16384x8),
    .binary (cell IA 240 346) (cell IA 246 352) (cell IA 247 353) Host.shrui,
    .binary (cell IA 244 350) (cell IA 247 353) (cell IA 248 354) ori,
    .binary (cell IA 241 347) (cell IA 248 354) (cell IA 249 355) xori,
    .binary (cell IA 241 347) (cell IA 249 355) (cell IA 250 356) addi,
    .nullary (cell I0 251 357) (constantI S_ 32 26#32),
    .unary (cell I0 251 357) (cell IA 252 358) (broadcastInDim S16384x8 ![] bcast_S_S16384x8),
    .binary (cell IA 249 355) (cell IA 252 358) (cell IA 253 359) Host.shli,
    .nullary (cell I0 254 360) (constantI S_ 32 6#32),
    .unary (cell I0 254 360) (cell IA 255 361) (broadcastInDim S16384x8 ![] bcast_S_S16384x8),
    .binary (cell IA 249 355) (cell IA 255 361) (cell IA 256 362) Host.shrui,
    .binary (cell IA 253 359) (cell IA 256 362) (cell IA 257 363) ori,
    .binary (cell IA 250 356) (cell IA 257 363) (cell IA 258 364) xori,
    .binary (cell IA 250 356) (cell IA 258 364) (cell IA 259 365) addi,
    .nullary (cell I0 260 366) (constantI S_ 32 6#32),
    .unary (cell I0 260 366) (cell IA 261 367) (broadcastInDim S16384x8 ![] bcast_S_S16384x8),
    .binary (cell IA 258 364) (cell IA 261 367) (cell IA 262 368) Host.shli,
    .nullary (cell I0 263 369) (constantI S_ 32 26#32),
    .unary (cell I0 263 369) (cell IA 264 370) (broadcastInDim S16384x8 ![] bcast_S_S16384x8),
    .binary (cell IA 258 364) (cell IA 264 370) (cell IA 265 371) Host.shrui,
    .binary (cell IA 262 368) (cell IA 265 371) (cell IA 266 372) ori,
    .binary (cell IA 259 365) (cell IA 266 372) (cell IA 267 373) xori,
    .unary (cell I0 55 161) (cell IA 268 374) (broadcastInDim S16384x8 ![] bcast_S_S16384x8),
    .binary (cell IA 259 365) (cell IA 268 374) (cell IA 269 375) addi,
    .unary (cell I0 36 142) (cell IA 270 376) (broadcastInDim S16384x8 ![] bcast_S_S16384x8),
    .binary (cell IA 267 373) (cell IA 270 376) (cell IA 271 377) addi,
    .nullary (cell I0 272 378) (constantI S_ 32 5#32),
    .unary (cell I0 272 378) (cell IA 273 379) (broadcastInDim S16384x8 ![] bcast_S_S16384x8),
    .binary (cell IA 271 377) (cell IA 273 379) (cell IA 274 380) addi,
    .binary (cell IA 269 375) (cell IA 274 380) (cell IA 275 381) xori,
    .nullary (cell I0 276 382) (constantI S_ 32 9#32),
    .unary (cell I0 276 382) (cell IA 277 383) (broadcastInDim S16384x8 ![] bcast_S_S16384x8),
    .binary (cell IA 275 381) (cell IA 277 383) (cell IA 278 384) Host.shrui,
    .nullary (cell I0 279 385) (constantI S_ 32 1065353216#32),
    .unary (cell I0 279 385) (cell IA 280 386) (broadcastInDim S16384x8 ![] bcast_S_S16384x8),
    .binary (cell IA 278 384) (cell IA 280 386) (cell IA 281 387) ori,
    .unary (cell IA 281 387) (cell FA 282 388) (bitcastToFloat .f32),
    .nullary (cell F0 283 389) (constant S_ .f32 0x3F800000#32),
    .unary (cell F0 283 389) (cell FA 284 390) (broadcastInDim S16384x8 ![] bcast_S_S16384x8),
    .binary (cell FA 282 388) (cell FA 284 390) (cell FA 285 391) subf,
    .binary (cell F1 34 140) (cell F1 33 139) (cell F1 286 392) subf,
    .unary (cell F1 286 392) (cell FA 287 393) (broadcastInDim S16384x8 ![0, 1] bcast_S1x1_S16384x8_0_1),
    .binary (cell FA 285 391) (cell FA 287 393) (cell FA 288 394) mulf,
    .unary (cell F1 33 139) (cell FA 289 395) (broadcastInDim S16384x8 ![0, 1] bcast_S1x1_S16384x8_0_1),
    .binary (cell FA 288 394) (cell FA 289 395) (cell FA 290 396) addf,
    .unary (cell F1 33 139) (cell FA 291 397) (broadcastInDim S16384x8 ![0, 1] bcast_S1x1_S16384x8_0_1),
    .binary (cell FA 291 397) (cell FA 290 396) (cell FA 292 398) maximumf,
    .unary (cell FA 292 398) (cell FA 293 399) Host.log,
    .unary (cell FA 293 399) (cell FA 294 400) Host.negf,
    .unary (cell FA 294 400) (cell FA 295 401) Host.log,
    .unary (cell FA 295 401) (cell FA 296 402) Host.negf ]

set_option maxHeartbeats 40000000 in
/-- The kernel program's stretch of host operations is the noise on its buffers. -/
theorem left_eq : (noise (F := F)).map Step.left = hostOps0_1 := by
  chain_rfl

/-- The two keys' buffers. -/
abbrev key : Ref KernelIdeal.sig .tc × Ref ReferenceIdeal.sig .tc := (main_v23, ReferenceIdeal.main_v101)

set_option maxHeartbeats 40000000 in
/-- Each of its operations reads the key or values already drawn and writes a fresh buffer. -/
theorem noise_checked : check [key] (noise (F := F)) = true := by
  chain_rfl

set_option maxHeartbeats 40000000 in
/-- The two results' buffers are known at the end. -/
theorem result_known : (main_v24, ReferenceIdeal.main_v105) ∈ known [key] (noise (F := F)) := by
  refine of_decide_eq_true ?_
  chain_rfl

/-- From equal keys the two programs hold equal noise. -/
theorem noise_heq (V : Valuation KernelIdeal.τ KernelIdeal.sig (Elt F)) (W : Valuation ReferenceIdeal.τ ReferenceIdeal.sig (Elt F))
    (h : HEq (V (Proc.devRef .tc main_v23)) (W (Proc.devRef .tc ReferenceIdeal.main_v101))) :
    HEq (after hostOps0_1 V (Proc.devRef .tc main_v24))
      (after ((noise (F := F)).map Step.right) W (Proc.devRef .tc ReferenceIdeal.main_v105)) := by
  have hall := lockstep (noise (F := F)) [key] V W noise_checked (by
    intro p hp
    cases List.mem_singleton.mp hp
    exact h)
  rw [left_eq] at hall
  exact hall _ result_known

end Cert.Proof.Noise

end
-- ==== Proof.RefOps.lean ====
/-
  The reference program's operations, in order, as straight lines: @main is their concatenation (`main_eq`), with the
  noise's own line between (Noise.lean). Each line comes with the buffers it writes, so that a read of any other buffer
  passes through it (`keep_…`).
-/
module

public import proofs.«01_k».proof.Proof.Noise
public import Idealize.ShloMosaic.Lib.StableHlo.RunRead
public import Idealize.ShloMosaic.Lib.Pipeline.Regions

@[expose] public section

set_option maxRecDepth 4000

noncomputable section

namespace Cert.Proof.Ref

open Cert.ReferenceIdeal Cert.ReferenceIdeal.Gen
open Idealize.ShloMosaic Idealize.ShloMosaic.TcCoe Idealize.SL.Sem

variable {F : FTy → Type} [FloatOps F]

/-- Operations: the first matrix product, the eight heads, their first 32 columns stacked. -/
abbrev muOps : List (HloOp τ sig (Elt F)) :=
  [ StableHlo.binary main_arg0 main_arg1 main_v0 ((fun l r => Host.dotGeneral dot_S16384x128_S128x520_S16384x520_1_0_0_1_n_n none l r) : (⟨S16384x128, .f32⟩ : BufTy).Contents (Elt F) → (⟨S128x520, .f32⟩ : BufTy).Contents (Elt F) → (⟨S16384x520, .f32⟩ : BufTy).Contents (Elt F)),
    StableHlo.unary main_arg2 main_v1 (broadcastInDim S1x520 ![1] bcast_S520_S1x520_1 : (⟨S520, .f32⟩ : BufTy).Contents (Elt F) → (⟨S1x520, .f32⟩ : BufTy).Contents (Elt F)),
    StableHlo.unary main_v1 main_v2 (broadcastInDim S16384x520 ![0, 1] bcast_S1x520_S16384x520_0_1 : (⟨S1x520, .f32⟩ : BufTy).Contents (Elt F) → (⟨S16384x520, .f32⟩ : BufTy).Contents (Elt F)),
    StableHlo.binary main_v0 main_v2 main_v3 (addf : (⟨S16384x520, .f32⟩ : BufTy).Contents (Elt F) → (⟨S16384x520, .f32⟩ : BufTy).Contents (Elt F) → (⟨S16384x520, .f32⟩ : BufTy).Contents (Elt F)),
    StableHlo.unary main_v3 main_v4 ((extractStridedSlice S16384x65 ![0, 0] · slices_S16384x520_S16384x65_0_0) : (⟨S16384x520, .f32⟩ : BufTy).Contents (Elt F) → (⟨S16384x65, .f32⟩ : BufTy).Contents (Elt F)),
    StableHlo.unary main_v3 main_v5 ((extractStridedSlice S16384x65 ![0, 65] · slices_S16384x520_S16384x65_0_65) : (⟨S16384x520, .f32⟩ : BufTy).Contents (Elt F) → (⟨S16384x65, .f32⟩ : BufTy).Contents (Elt F)),
    StableHlo.unary main_v3 main_v6 ((extractStridedSlice S16384x65 ![0, 130] · slices_S16384x520_S16384x65_0_130) : (⟨S16384x520, .f32⟩ : BufTy).Contents (Elt F) → (⟨S16384x65, .f32⟩ : BufTy).Contents (Elt F)),
    StableHlo.unary main_v3 main_v7 ((extractStridedSlice S16384x65 ![0, 195] · slices_S16384x520_S16384x65_0_195) : (⟨S16384x520, .f32⟩ : BufTy).Contents (Elt F) → (⟨S16384x65, .f32⟩ : BufTy).Contents (Elt F)),
    StableHlo.unary main_v3 main_v8 ((extractStridedSlice S16384x65 ![0, 260] · slices_S16384x520_S16384x65_0_260) : (⟨S16384x520, .f32⟩ : BufTy).Contents (Elt F) → (⟨S16384x65, .f32⟩ : BufTy).Contents (Elt F)),
    StableHlo.unary main_v3 main_v9 ((extractStridedSlice S16384x65 ![0, 325] · slices_S16384x520_S16384x65_0_325) : (⟨S16384x520, .f32⟩ : BufTy).Contents (Elt F) → (⟨S16384x65, .f32⟩ : BufTy).Contents (Elt F)),
    StableHlo.unary main_v3 main_v10 ((extractStridedSlice S16384x65 ![0, 390] · slices_S16384x520_S16384x65_0_390) : (⟨S16384x520, .f32⟩ : BufTy).Contents (Elt F) → (⟨S16384x65, .f32⟩ : BufTy).Contents (Elt F)),
    StableHlo.unary main_v3 main_v11 ((extractStridedSlice S16384x65 ![0, 455] · slices_S16384x520_S16384x65_0_455) : (⟨S16384x520, .f32⟩ : BufTy).Contents (Elt F) → (⟨S16384x65, .f32⟩ : BufTy).Contents (Elt F)),
    StableHlo.unary main_v4 main_v12 ((extractStridedSlice S16384x64 ![0, 0] · slices_S16384x65_S16384x64_0_0) : (⟨S16384x65, .f32⟩ : BufTy).Contents (Elt F) → (⟨S16384x64, .f32⟩ : BufTy).Contents (Elt F)),
    StableHlo.unary main_v4 main_v13 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v13 main_v14 (rfl : (.f32 : EltTy) = .f32) shapeCasts_S16384x1_S16384,
    StableHlo.unary main_v12 main_v15 ((extractStridedSlice S16384x32 ![0, 0] · slices_S16384x64_S16384x32_0_0) : (⟨S16384x64, .f32⟩ : BufTy).Contents (Elt F) → (⟨S16384x32, .f32⟩ : BufTy).Contents (Elt F)),
    StableHlo.unary main_v12 main_v16 ((extractStridedSlice S16384x32 ![0, 32] · slices_S16384x64_S16384x32_0_32) : (⟨S16384x64, .f32⟩ : BufTy).Contents (Elt F) → (⟨S16384x32, .f32⟩ : BufTy).Contents (Elt F)),
    StableHlo.unary main_v5 main_v17 ((extractStridedSlice S16384x64 ![0, 0] · slices_S16384x65_S16384x64_0_0) : (⟨S16384x65, .f32⟩ : BufTy).Contents (Elt F) → (⟨S16384x64, .f32⟩ : BufTy).Contents (Elt F)),
    StableHlo.unary main_v5 main_v18 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v18 main_v19 (rfl : (.f32 : EltTy) = .f32) shapeCasts_S16384x1_S16384,
    StableHlo.unary main_v17 main_v20 ((extractStridedSlice S16384x32 ![0, 0] · slices_S16384x64_S16384x32_0_0) : (⟨S16384x64, .f32⟩ : BufTy).Contents (Elt F) → (⟨S16384x32, .f32⟩ : BufTy).Contents (Elt F)),
    StableHlo.unary main_v17 main_v21 ((extractStridedSlice S16384x32 ![0, 32] · slices_S16384x64_S16384x32_0_32) : (⟨S16384x64, .f32⟩ : BufTy).Contents (Elt F) → (⟨S16384x32, .f32⟩ : BufTy).Contents (Elt F)),
    StableHlo.unary main_v6 main_v22 ((extractStridedSlice S16384x64 ![0, 0] · slices_S16384x65_S16384x64_0_0) : (⟨S16384x65, .f32⟩ : BufTy).Contents (Elt F) → (⟨S16384x64, .f32⟩ : BufTy).Contents (Elt F)),
    StableHlo.unary main_v6 main_v23 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v23 main_v24 (rfl : (.f32 : EltTy) = .f32) shapeCasts_S16384x1_S16384,
    StableHlo.unary main_v22 main_v25 ((extractStridedSlice S16384x32 ![0, 0] · slices_S16384x64_S16384x32_0_0) : (⟨S16384x64, .f32⟩ : BufTy).Contents (Elt F) → (⟨S16384x32, .f32⟩ : BufTy).Contents (Elt F)),
    StableHlo.unary main_v22 main_v26 ((extractStridedSlice S16384x32 ![0, 32] · slices_S16384x64_S16384x32_0_32) : (⟨S16384x64, .f32⟩ : BufTy).Contents (Elt F) → (⟨S16384x32, .f32⟩ : BufTy).Contents (Elt F)),
    StableHlo.unary main_v7 main_v27 ((extractStridedSlice S16384x64 ![0, 0] · slices_S16384x65_S16384x64_0_0) : (⟨S16384x65, .f32⟩ : BufTy).Contents (Elt F) → (⟨S16384x64, .f32⟩ : BufTy).Contents (Elt F)),
    StableHlo.unary main_v7 main_v28 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v28 main_v29 (rfl : (.f32 : EltTy) = .f32) shapeCasts_S16384x1_S16384,
    StableHlo.unary main_v27 main_v30 ((extractStridedSlice S16384x32 ![0, 0] · slices_S16384x64_S16384x32_0_0) : (⟨S16384x64, .f32⟩ : BufTy).Contents (Elt F) → (⟨S16384x32, .f32⟩ : BufTy).Contents (Elt F)),
    StableHlo.unary main_v27 main_v31 ((extractStridedSlice S16384x32 ![0, 32] · slices_S16384x64_S16384x32_0_32) : (⟨S16384x64, .f32⟩ : BufTy).Contents (Elt F) → (⟨S16384x32, .f32⟩ : BufTy).Contents (Elt F)),
    StableHlo.unary main_v8 main_v32 ((extractStridedSlice S16384x64 ![0, 0] · slices_S16384x65_S16384x64_0_0) : (⟨S16384x65, .f32⟩ : BufTy).Contents (Elt F) → (⟨S16384x64, .f32⟩ : BufTy).Contents (Elt F)),
    StableHlo.unary main_v8 main_v33 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v33 main_v34 (rfl : (.f32 : EltTy) = .f32) shapeCasts_S16384x1_S16384,
    StableHlo.unary main_v32 main_v35 ((extractStridedSlice S16384x32 ![0, 0] · slices_S16384x64_S16384x32_0_0) : (⟨S16384x64, .f32⟩ : BufTy).Contents (Elt F) → (⟨S16384x32, .f32⟩ : BufTy).Contents (Elt F)),
    StableHlo.unary main_v32 main_v36 ((extractStridedSlice S16384x32 ![0, 32] · slices_S16384x64_S16384x32_0_32) : (⟨S16384x64, .f32⟩ : BufTy).Contents (Elt F) → (⟨S16384x32, .f32⟩ : BufTy).Contents (Elt F)),
    StableHlo.unary main_v9 main_v37 ((extractStridedSlice S16384x64 ![0, 0] · slices_S16384x65_S16384x64_0_0) : (⟨S16384x65, .f32⟩ : BufTy).Contents (Elt F) → (⟨S16384x64, .f32⟩ : BufTy).Contents (Elt F)),
    StableHlo.unary main_v9 main_v38 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v38 main_v39 (rfl : (.f32 : EltTy) = .f32) shapeCasts_S16384x1_S16384,
    StableHlo.unary main_v37 main_v40 ((extractStridedSlice S16384x32 ![0, 0] · slices_S16384x64_S16384x32_0_0) : (⟨S16384x64, .f32⟩ : BufTy).Contents (Elt F) → (⟨S16384x32, .f32⟩ : BufTy).Contents (Elt F)),
    StableHlo.unary main_v37 main_v41 ((extractStridedSlice S16384x32 ![0, 32] · slices_S16384x64_S16384x32_0_32) : (⟨S16384x64, .f32⟩ : BufTy).Contents (Elt F) → (⟨S16384x32, .f32⟩ : BufTy).Contents (Elt F)),
    StableHlo.unary main_v10 main_v42 ((extractStridedSlice S16384x64 ![0, 0] · slices_S16384x65_S16384x64_0_0) : (⟨S16384x65, .f32⟩ : BufTy).Contents (Elt F) → (⟨S16384x64, .f32⟩ : BufTy).Contents (Elt F)),
    StableHlo.unary main_v10 main_v43 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v43 main_v44 (rfl : (.f32 : EltTy) = .f32) shapeCasts_S16384x1_S16384,
    StableHlo.unary main_v42 main_v45 ((extractStridedSlice S16384x32 ![0, 0] · slices_S16384x64_S16384x32_0_0) : (⟨S16384x64, .f32⟩ : BufTy).Contents (Elt F) → (⟨S16384x32, .f32⟩ : BufTy).Contents (Elt F)),
    StableHlo.unary main_v42 main_v46 ((extractStridedSlice S16384x32 ![0, 32] · slices_S16384x64_S16384x32_0_32) : (⟨S16384x64, .f32⟩ : BufTy).Contents (Elt F) → (⟨S16384x32, .f32⟩ : BufTy).Contents (Elt F)),
    StableHlo.unary main_v11 main_v47 ((extractStridedSlice S16384x64 ![0, 0] · slices_S16384x65_S16384x64_0_0) : (⟨S16384x65, .f32⟩ : BufTy).Contents (Elt F) → (⟨S16384x64, .f32⟩ : BufTy).Contents (Elt F)),
    StableHlo.unary main_v11 main_v48 ((extractStridedSlice S16384x1 ![0, 64] · slices_S16384x65_S16384x1_0_64) : (⟨S16384x65, .f32⟩ : BufTy).Contents (Elt F) → (⟨S16384x1, .f32⟩ : BufTy).Contents (Elt F)),
    StableHlo.reshape main_v48 main_v49 (rfl : (.f32 : EltTy) = .f32) shapeCasts_S16384x1_S16384,
    StableHlo.unary main_v47 main_v50 ((extractStridedSlice S16384x32 ![0, 0] · slices_S16384x64_S16384x32_0_0) : (⟨S16384x64, .f32⟩ : BufTy).Contents (Elt F) → (⟨S16384x32, .f32⟩ : BufTy).Contents (Elt F)),
    StableHlo.unary main_v47 main_v51 ((extractStridedSlice S16384x32 ![0, 32] · slices_S16384x64_S16384x32_0_32) : (⟨S16384x64, .f32⟩ : BufTy).Contents (Elt F) → (⟨S16384x32, .f32⟩ : BufTy).Contents (Elt F)),
    StableHlo.unary main_v15 main_v52 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v20 main_v53 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v25 main_v54 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v30 main_v55 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v35 main_v56 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v40 main_v57 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v45 main_v58 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v50 main_v59 (broadcastInDim S16384x1x32 ![0, 2] bcast_S16384x32_S16384x1x32_0_2 : (⟨S16384x32, .f32⟩ : BufTy).Contents (Elt F) → (⟨S16384x1x32, .f32⟩ : BufTy).Contents (Elt F)),
    StableHlo.nary ![main_v52, main_v53, main_v54, main_v55, main_v56, main_v57, main_v58, main_v59] main_v60 (fun u => (concatenate S16384x8x32 1 [⟨S16384x1x32, (u 0 : (⟨S16384x1x32, .f32⟩ : BufTy).Contents (Elt F))⟩, ⟨S16384x1x32, (u 1 : (⟨S16384x1x32, .f32⟩ : BufTy).Contents (Elt F))⟩, ⟨S16384x1x32, (u 2 : (⟨S16384x1x32, .f32⟩ : BufTy).Contents (Elt F))⟩, ⟨S16384x1x32, (u 3 : (⟨S16384x1x32, .f32⟩ : BufTy).Contents (Elt F))⟩, ⟨S16384x1x32, (u 4 : (⟨S16384x1x32, .f32⟩ : BufTy).Contents (Elt F))⟩, ⟨S16384x1x32, (u 5 : (⟨S16384x1x32, .f32⟩ : BufTy).Contents (Elt F))⟩, ⟨S16384x1x32, (u 6 : (⟨S16384x1x32, .f32⟩ : BufTy).Contents (Elt F))⟩, ⟨S16384x1x32, (u 7 : (⟨S16384x1x32, .f32⟩ : BufTy).Contents (Elt F))⟩] concatenates_S16384x1x32_S16384x1x32_S16384x1x32_S16384x1x32_S16384x1x32_S16384x1x32_S16384x1x32_S16384x1x32_S16384x8x32_d1 : (⟨S16384x8x32, .f32⟩ : BufTy).Contents (Elt F))) ]

/-- What they write. -/
abbrev muW : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60]

/-- Any other buffer keeps its contents through them. -/
theorem keep_mu {r : Ref sig .tc} (h : r ∉ muW) (V : Valuation τ sig (Elt F)) :
    StableHlo.after muOps V (Proc.devRef .tc r) = V (Proc.devRef .tc r) :=
  StableHlo.after_unwritten muW rfl h V

/-- They touch references of the TensorCore only. -/
theorem mu_sub : (muOps : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- Each determines its result. -/
theorem mu_fresh : ∀ op ∈ (muOps : List (HloOp τ sig (Elt F))), op.fresh = ∅ := by
  intro _ h; (repeat (cases h with | head => rfl | tail _ h => ?_)); exact nomatch h

/-- Operations: the heads' next 32 columns stacked. -/
abbrev varOps : List (HloOp τ sig (Elt F)) :=
  [ StableHlo.unary main_v16 main_v61 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v21 main_v62 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v26 main_v63 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v31 main_v64 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v36 main_v65 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v41 main_v66 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v46 main_v67 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v51 main_v68 (broadcastInDim S16384x1x32 ![0, 2] bcast_S16384x32_S16384x1x32_0_2 : (⟨S16384x32, .f32⟩ : BufTy).Contents (Elt F) → (⟨S16384x1x32, .f32⟩ : BufTy).Contents (Elt F)),
    StableHlo.nary ![main_v61, main_v62, main_v63, main_v64, main_v65, main_v66, main_v67, main_v68] main_v69 (fun u => (concatenate S16384x8x32 1 [⟨S16384x1x32, (u 0 : (⟨S16384x1x32, .f32⟩ : BufTy).Contents (Elt F))⟩, ⟨S16384x1x32, (u 1 : (⟨S16384x1x32, .f32⟩ : BufTy).Contents (Elt F))⟩, ⟨S16384x1x32, (u 2 : (⟨S16384x1x32, .f32⟩ : BufTy).Contents (Elt F))⟩, ⟨S16384x1x32, (u 3 : (⟨S16384x1x32, .f32⟩ : BufTy).Contents (Elt F))⟩, ⟨S16384x1x32, (u 4 : (⟨S16384x1x32, .f32⟩ : BufTy).Contents (Elt F))⟩, ⟨S16384x1x32, (u 5 : (⟨S16384x1x32, .f32⟩ : BufTy).Contents (Elt F))⟩, ⟨S16384x1x32, (u 6 : (⟨S16384x1x32, .f32⟩ : BufTy).Contents (Elt F))⟩, ⟨S16384x1x32, (u 7 : (⟨S16384x1x32, .f32⟩ : BufTy).Contents (Elt F))⟩] concatenates_S16384x1x32_S16384x1x32_S16384x1x32_S16384x1x32_S16384x1x32_S16384x1x32_S16384x1x32_S16384x1x32_S16384x8x32_d1 : (⟨S16384x8x32, .f32⟩ : BufTy).Contents (Elt F))) ]

/-- What they write. -/
abbrev varW : List (Ref sig .tc) :=
  [main_v61, main_v62, main_v63, main_v64, main_v65, main_v66, main_v67, main_v68, main_v69]

/-- Any other buffer keeps its contents through them. -/
theorem keep_var {r : Ref sig .tc} (h : r ∉ varW) (V : Valuation τ sig (Elt F)) :
    StableHlo.after varOps V (Proc.devRef .tc r) = V (Proc.devRef .tc r) :=
  StableHlo.after_unwritten varW rfl h V

/-- They touch references of the TensorCore only. -/
theorem var_sub : (varOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- Each determines its result. -/
theorem var_fresh : ∀ op ∈ (varOps : List (HloOp τ sig (Elt F))), op.fresh = ∅ := by
  intro _ h; (repeat (cases h with | head => rfl | tail _ h => ?_)); exact nomatch h

/-- Operations: softplus and square root of the second stack; the heads' last columns side by side. -/
abbrev stdOps : List (HloOp τ sig (Elt F)) :=
  [ StableHlo.nullary main_call0_cst ((constant S_ .f32 0x00000000#32) : (⟨S_, .f32⟩ : BufTy).Contents (Elt F)),
    StableHlo.unary main_call0_cst main_call0_v0 ((broadcastInDim S16384x8x32 ![] bcast_S_S16384x8x32) : (⟨S_, .f32⟩ : BufTy).Contents (Elt F) → (⟨S16384x8x32, .f32⟩ : BufTy).Contents (Elt F)),
    StableHlo.binary main_v69 main_call0_v0 main_call0_v1 (maximumf : (⟨S16384x8x32, .f32⟩ : BufTy).Contents (Elt F) → (⟨S16384x8x32, .f32⟩ : BufTy).Contents (Elt F) → (⟨S16384x8x32, .f32⟩ : BufTy).Contents (Elt F)),
    StableHlo.unary main_call0_cst main_call0_v2 ((broadcastInDim S16384x8x32 ![] bcast_S_S16384x8x32) : (⟨S_, .f32⟩ : BufTy).Contents (Elt F) → (⟨S16384x8x32, .f32⟩ : BufTy).Contents (Elt F)),
    StableHlo.binary main_v69 main_call0_v2 main_call0_v3 (subf : (⟨S16384x8x32, .f32⟩ : BufTy).Contents (Elt F) → (⟨S16384x8x32, .f32⟩ : BufTy).Contents (Elt F) → (⟨S16384x8x32, .f32⟩ : BufTy).Contents (Elt F)),
    StableHlo.binary main_call0_v3 main_call0_v3 main_call0_v4 ((cmpf .une) : (⟨S16384x8x32, .f32⟩ : BufTy).Contents (Elt F) → (⟨S16384x8x32, .f32⟩ : BufTy).Contents (Elt F) → (⟨S16384x8x32, .i1⟩ : BufTy).Contents (Elt F)),
    StableHlo.unary main_call0_cst main_call0_v5 ((broadcastInDim S16384x8x32 ![] bcast_S_S16384x8x32) : (⟨S_, .f32⟩ : BufTy).Contents (Elt F) → (⟨S16384x8x32, .f32⟩ : BufTy).Contents (Elt F)),
    StableHlo.binary main_v69 main_call0_v5 main_call0_v6 (addf : (⟨S16384x8x32, .f32⟩ : BufTy).Contents (Elt F) → (⟨S16384x8x32, .f32⟩ : BufTy).Contents (Elt F) → (⟨S16384x8x32, .f32⟩ : BufTy).Contents (Elt F)),
    StableHlo.unary main_call0_v3 main_call0_v7 (Host.absf : (⟨S16384x8x32, .f32⟩ : BufTy).Contents (Elt F) → (⟨S16384x8x32, .f32⟩ : BufTy).Contents (Elt F)),
    StableHlo.unary main_call0_v7 main_call0_v8 (Host.negf : (⟨S16384x8x32, .f32⟩ : BufTy).Contents (Elt F) → (⟨S16384x8x32, .f32⟩ : BufTy).Contents (Elt F)),
    StableHlo.unary main_call0_v8 main_call0_v9 (Host.exp : (⟨S16384x8x32, .f32⟩ : BufTy).Contents (Elt F) → (⟨S16384x8x32, .f32⟩ : BufTy).Contents (Elt F)),
    StableHlo.unary main_call0_v9 main_call0_v10 (Host.log1p : (⟨S16384x8x32, .f32⟩ : BufTy).Contents (Elt F) → (⟨S16384x8x32, .f32⟩ : BufTy).Contents (Elt F)),
    StableHlo.binary main_call0_v1 main_call0_v10 main_call0_v11 (addf : (⟨S16384x8x32, .f32⟩ : BufTy).Contents (Elt F) → (⟨S16384x8x32, .f32⟩ : BufTy).Contents (Elt F) → (⟨S16384x8x32, .f32⟩ : BufTy).Contents (Elt F)),
    StableHlo.ternary main_call0_v4 main_call0_v6 main_call0_v11 main_v70 (select : (⟨S16384x8x32, .i1⟩ : BufTy).Contents (Elt F) → (⟨S16384x8x32, .f32⟩ : BufTy).Contents (Elt F) → (⟨S16384x8x32, .f32⟩ : BufTy).Contents (Elt F) → (⟨S16384x8x32, .f32⟩ : BufTy).Contents (Elt F)),
    StableHlo.nullary main_cst (constant S_ .f32 0x322BCC77#32),
    StableHlo.unary main_cst main_v71 (broadcastInDim S16384x8x32 ![] bcast_S_S16384x8x32 : (⟨S_, .f32⟩ : BufTy).Contents (Elt F) → (⟨S16384x8x32, .f32⟩ : BufTy).Contents (Elt F)),
    StableHlo.binary main_v70 main_v71 main_v72 (addf : (⟨S16384x8x32, .f32⟩ : BufTy).Contents (Elt F) → (⟨S16384x8x32, .f32⟩ : BufTy).Contents (Elt F) → (⟨S16384x8x32, .f32⟩ : BufTy).Contents (Elt F)),
    StableHlo.unary main_v72 main_v73 (Host.sqrt : (⟨S16384x8x32, .f32⟩ : BufTy).Contents (Elt F) → (⟨S16384x8x32, .f32⟩ : BufTy).Contents (Elt F)),
    StableHlo.unary main_v14 main_v74 (broadcastInDim S16384x1 ![0] bcast_S16384_S16384x1_0 : (⟨S16384, .f32⟩ : BufTy).Contents (Elt F) → (⟨S16384x1, .f32⟩ : BufTy).Contents (Elt F)),
    StableHlo.unary main_v19 main_v75 (broadcastInDim S16384x1 ![0] bcast_S16384_S16384x1_0 : (⟨S16384, .f32⟩ : BufTy).Contents (Elt F) → (⟨S16384x1, .f32⟩ : BufTy).Contents (Elt F)),
    StableHlo.unary main_v24 main_v76 (broadcastInDim S16384x1 ![0] bcast_S16384_S16384x1_0 : (⟨S16384, .f32⟩ : BufTy).Contents (Elt F) → (⟨S16384x1, .f32⟩ : BufTy).Contents (Elt F)),
    StableHlo.unary main_v29 main_v77 (broadcastInDim S16384x1 ![0] bcast_S16384_S16384x1_0 : (⟨S16384, .f32⟩ : BufTy).Contents (Elt F) → (⟨S16384x1, .f32⟩ : BufTy).Contents (Elt F)),
    StableHlo.unary main_v34 main_v78 (broadcastInDim S16384x1 ![0] bcast_S16384_S16384x1_0 : (⟨S16384, .f32⟩ : BufTy).Contents (Elt F) → (⟨S16384x1, .f32⟩ : BufTy).Contents (Elt F)),
    StableHlo.unary main_v39 main_v79 (broadcastInDim S16384x1 ![0] bcast_S16384_S16384x1_0 : (⟨S16384, .f32⟩ : BufTy).Contents (Elt F) → (⟨S16384x1, .f32⟩ : BufTy).Contents (Elt F)),
    StableHlo.unary main_v44 main_v80 (broadcastInDim S16384x1 ![0] bcast_S16384_S16384x1_0 : (⟨S16384, .f32⟩ : BufTy).Contents (Elt F) → (⟨S16384x1, .f32⟩ : BufTy).Contents (Elt F)),
    StableHlo.unary main_v49 main_v81 (broadcastInDim S16384x1 ![0] bcast_S16384_S16384x1_0 : (⟨S16384, .f32⟩ : BufTy).Contents (Elt F) → (⟨S16384x1, .f32⟩ : BufTy).Contents (Elt F)),
    StableHlo.nary ![main_v74, main_v75, main_v76, main_v77, main_v78, main_v79, main_v80, main_v81] main_v82 (fun u => (concatenate S16384x8 1 [⟨S16384x1, (u 0 : (⟨S16384x1, .f32⟩ : BufTy).Contents (Elt F))⟩, ⟨S16384x1, (u 1 : (⟨S16384x1, .f32⟩ : BufTy).Contents (Elt F))⟩, ⟨S16384x1, (u 2 : (⟨S16384x1, .f32⟩ : BufTy).Contents (Elt F))⟩, ⟨S16384x1, (u 3 : (⟨S16384x1, .f32⟩ : BufTy).Contents (Elt F))⟩, ⟨S16384x1, (u 4 : (⟨S16384x1, .f32⟩ : BufTy).Contents (Elt F))⟩, ⟨S16384x1, (u 5 : (⟨S16384x1, .f32⟩ : BufTy).Contents (Elt F))⟩, ⟨S16384x1, (u 6 : (⟨S16384x1, .f32⟩ : BufTy).Contents (Elt F))⟩, ⟨S16384x1, (u 7 : (⟨S16384x1, .f32⟩ : BufTy).Contents (Elt F))⟩] concatenates_S16384x1_S16384x1_S16384x1_S16384x1_S16384x1_S16384x1_S16384x1_S16384x1_S16384x8_d1 : (⟨S16384x8, .f32⟩ : BufTy).Contents (Elt F))) ]

/-- What they write. -/
abbrev stdW : List (Ref sig .tc) :=
  [main_call0_cst, main_call0_v0, main_call0_v1, main_call0_v2, main_call0_v3, main_call0_v4, main_call0_v5, main_call0_v6, main_call0_v7, main_call0_v8, main_call0_v9, main_call0_v10, main_call0_v11, main_v70, main_cst, main_v71, main_v72, main_v73, main_v74, main_v75, main_v76, main_v77, main_v78, main_v79, main_v80, main_v81, main_v82]

/-- Any other buffer keeps its contents through them. -/
theorem keep_std {r : Ref sig .tc} (h : r ∉ stdW) (V : Valuation τ sig (Elt F)) :
    StableHlo.after stdOps V (Proc.devRef .tc r) = V (Proc.devRef .tc r) :=
  StableHlo.after_unwritten stdW rfl h V

/-- They touch references of the TensorCore only. -/
theorem std_sub : (stdOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- Each determines its result. -/
theorem std_fresh : ∀ op ∈ (stdOps : List (HloOp τ sig (Elt F))), op.fresh = ∅ := by
  intro _ h; (repeat (cases h with | head => rfl | tail _ h => ?_)); exact nomatch h

/-- Operations: the clip of the deviations. -/
abbrev clipOps : List (HloOp τ sig (Elt F)) :=
  [ StableHlo.nullary main_cst_0 (constant S_ .f32 0x3727C5AC#32),
    StableHlo.nullary main_cst_1 (constant S_ .f32 0x47C35000#32),
    StableHlo.unary main_cst_0 main_call1_v0 (id : (⟨S_, .f32⟩ : BufTy).Contents (Elt F) → (⟨S_, .f32⟩ : BufTy).Contents (Elt F)),
    StableHlo.unary main_call1_v0 main_call1_v1 ((broadcastInDim S16384x8x32 ![] bcast_S_S16384x8x32) : (⟨S_, .f32⟩ : BufTy).Contents (Elt F) → (⟨S16384x8x32, .f32⟩ : BufTy).Contents (Elt F)),
    StableHlo.binary main_call1_v1 main_v73 main_call1_v2 (maximumf : (⟨S16384x8x32, .f32⟩ : BufTy).Contents (Elt F) → (⟨S16384x8x32, .f32⟩ : BufTy).Contents (Elt F) → (⟨S16384x8x32, .f32⟩ : BufTy).Contents (Elt F)),
    StableHlo.unary main_cst_1 main_call1_v3 (id : (⟨S_, .f32⟩ : BufTy).Contents (Elt F) → (⟨S_, .f32⟩ : BufTy).Contents (Elt F)),
    StableHlo.unary main_call1_v3 main_call1_v4 ((broadcastInDim S16384x8x32 ![] bcast_S_S16384x8x32) : (⟨S_, .f32⟩ : BufTy).Contents (Elt F) → (⟨S16384x8x32, .f32⟩ : BufTy).Contents (Elt F)),
    StableHlo.binary main_call1_v4 main_call1_v2 main_v83 (minimumf : (⟨S16384x8x32, .f32⟩ : BufTy).Contents (Elt F) → (⟨S16384x8x32, .f32⟩ : BufTy).Contents (Elt F) → (⟨S16384x8x32, .f32⟩ : BufTy).Contents (Elt F)) ]

/-- What they write. -/
abbrev clipW : List (Ref sig .tc) :=
  [main_cst_0, main_cst_1, main_call1_v0, main_call1_v1, main_call1_v2, main_call1_v3, main_call1_v4, main_v83]

/-- Any other buffer keeps its contents through them. -/
theorem keep_clip {r : Ref sig .tc} (h : r ∉ clipW) (V : Valuation τ sig (Elt F)) :
    StableHlo.after clipOps V (Proc.devRef .tc r) = V (Proc.devRef .tc r) :=
  StableHlo.after_unwritten clipW rfl h V

/-- They touch references of the TensorCore only. -/
theorem clip_sub : (clipOps : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub ..⟩

/-- Each determines its result. -/
theorem clip_fresh : ∀ op ∈ (clipOps : List (HloOp τ sig (Elt F))), op.fresh = ∅ := by
  intro _ h; (repeat (cases h with | head => rfl | tail _ h => ?_)); exact nomatch h

/-- Operations: the softmax of the weights, the key of the noise, the logarithm. -/
abbrev logitOps : List (HloOp τ sig (Elt F)) :=
  [ StableHlo.nullary main_cst_2 (constant S_ .f32 0xFF800000#32),
    StableHlo.binary main_v82 main_cst_2 main_v84 ((fun x v => Host.reduce FloatOps.maximumf x v reducesTo_S16384x8_S16384_d1 h_S_) : (⟨S16384x8, .f32⟩ : BufTy).Contents (Elt F) → (⟨S_, .f32⟩ : BufTy).Contents (Elt F) → (⟨S16384, .f32⟩ : BufTy).Contents (Elt F)),
    StableHlo.nullary main_cst_3 (constant S_ .f32 0xFF800000#32),
    StableHlo.unary main_cst_3 main_v85 (broadcastInDim S16384 ![] bcast_S_S16384 : (⟨S_, .f32⟩ : BufTy).Contents (Elt F) → (⟨S16384, .f32⟩ : BufTy).Contents (Elt F)),
    StableHlo.binary main_v85 main_v84 main_v86 (maximumf : (⟨S16384, .f32⟩ : BufTy).Contents (Elt F) → (⟨S16384, .f32⟩ : BufTy).Contents (Elt F) → (⟨S16384, .f32⟩ : BufTy).Contents (Elt F)),
    StableHlo.unary main_v86 main_v87 (broadcastInDim S16384x1 ![0] bcast_S16384_S16384x1_0 : (⟨S16384, .f32⟩ : BufTy).Contents (Elt F) → (⟨S16384x1, .f32⟩ : BufTy).Contents (Elt F)),
    StableHlo.unary main_v87 main_v88 (broadcastInDim S16384x8 ![0, 1] bcast_S16384x1_S16384x8_0_1 : (⟨S16384x1, .f32⟩ : BufTy).Contents (Elt F) → (⟨S16384x8, .f32⟩ : BufTy).Contents (Elt F)),
    StableHlo.binary main_v82 main_v88 main_v89 (subf : (⟨S16384x8, .f32⟩ : BufTy).Contents (Elt F) → (⟨S16384x8, .f32⟩ : BufTy).Contents (Elt F) → (⟨S16384x8, .f32⟩ : BufTy).Contents (Elt F)),
    StableHlo.unary main_v89 main_v90 (Host.exp : (⟨S16384x8, .f32⟩ : BufTy).Contents (Elt F) → (⟨S16384x8, .f32⟩ : BufTy).Contents (Elt F)),
    StableHlo.nullary main_cst_4 (constant S_ .f32 0x00000000#32),
    StableHlo.binary main_v90 main_cst_4 main_v91 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
    StableHlo.unary main_v91 main_v92 (broadcastInDim S16384x1 ![0] bcast_S16384_S16384x1_0 : (⟨S16384, .f32⟩ : BufTy).Contents (Elt F) → (⟨S16384x1, .f32⟩ : BufTy).Contents (Elt F)),
    StableHlo.unary main_v92 main_v93 (broadcastInDim S16384x8 ![0, 1] bcast_S16384x1_S16384x8_0_1 : (⟨S16384x1, .f32⟩ : BufTy).Contents (Elt F) → (⟨S16384x8, .f32⟩ : BufTy).Contents (Elt F)),
    StableHlo.binary main_v90 main_v93 main_v94 (Host.divf : (⟨S16384x8, .f32⟩ : BufTy).Contents (Elt F) → (⟨S16384x8, .f32⟩ : BufTy).Contents (Elt F) → (⟨S16384x8, .f32⟩ : BufTy).Contents (Elt F)),
    StableHlo.nullary main_c (constantI S_ 32 42#32),
    StableHlo.nullary main_c_5 (constantI S_ 32 32#32),
    StableHlo.binary main_c main_c_5 main_v95 (Host.shrui : (⟨S_, .i32⟩ : BufTy).Contents (Elt F) → (⟨S_, .i32⟩ : BufTy).Contents (Elt F) → (⟨S_, .i32⟩ : BufTy).Contents (Elt F)),
    StableHlo.unary main_v95 main_v96 (id : (⟨S_, .i32⟩ : BufTy).Contents (Elt F) → (⟨S_, .i32⟩ : BufTy).Contents (Elt F)),
    StableHlo.unary main_v96 main_v97 (broadcastInDim S1 ![] bcast_S_S1 : (⟨S_, .i32⟩ : BufTy).Contents (Elt F) → (⟨S1, .i32⟩ : BufTy).Contents (Elt F)),
    StableHlo.nullary main_c_6 (constantI S_ 32 4294967295#32),
    StableHlo.binary main_c main_c_6 main_v98 (andi : (⟨S_, .i32⟩ : BufTy).Contents (Elt F) → (⟨S_, .i32⟩ : BufTy).Contents (Elt F) → (⟨S_, .i32⟩ : BufTy).Contents (Elt F)),
    StableHlo.unary main_v98 main_v99 (id : (⟨S_, .i32⟩ : BufTy).Contents (Elt F) → (⟨S_, .i32⟩ : BufTy).Contents (Elt F)),
    StableHlo.unary main_v99 main_v100 (broadcastInDim S1 ![] bcast_S_S1 : (⟨S_, .i32⟩ : BufTy).Contents (Elt F) → (⟨S1, .i32⟩ : BufTy).Contents (Elt F)),
    StableHlo.binary main_v97 main_v100 main_v101 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_7 (constant S_ .f32 0x0DA24260#32),
    StableHlo.unary main_cst_7 main_v102 (broadcastInDim S16384x8 ![] bcast_S_S16384x8 : (⟨S_, .f32⟩ : BufTy).Contents (Elt F) → (⟨S16384x8, .f32⟩ : BufTy).Contents (Elt F)),
    StableHlo.binary main_v94 main_v102 main_v103 (addf : (⟨S16384x8, .f32⟩ : BufTy).Contents (Elt F) → (⟨S16384x8, .f32⟩ : BufTy).Contents (Elt F) → (⟨S16384x8, .f32⟩ : BufTy).Contents (Elt F)),
    StableHlo.unary main_v103 main_v104 (Host.log : (⟨S16384x8, .f32⟩ : BufTy).Contents (Elt F) → (⟨S16384x8, .f32⟩ : BufTy).Contents (Elt F)) ]

/-- What they write. -/
abbrev logitW : List (Ref sig .tc) :=
  [main_cst_2, main_v84, main_cst_3, main_v85, main_v86, main_v87, main_v88, main_v89, main_v90, main_cst_4, main_v91, main_v92, main_v93, main_v94, main_c, main_c_5, main_v95, main_v96, main_v97, main_c_6, main_v98, main_v99, main_v100, main_v101, main_cst_7, main_v102, main_v103, main_v104]

/-- Any other buffer keeps its contents through them. -/
theorem keep_logit {r : Ref sig .tc} (h : r ∉ logitW) (V : Valuation τ sig (Elt F)) :
    StableHlo.after logitOps V (Proc.devRef .tc r) = V (Proc.devRef .tc r) :=
  StableHlo.after_unwritten logitW rfl h V

/-- They touch references of the TensorCore only. -/
theorem logit_sub : (logitOps : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩

/-- Each determines its result. -/
theorem logit_fresh : ∀ op ∈ (logitOps : List (HloOp τ sig (Elt F))), op.fresh = ∅ := by
  intro _ h; (repeat (cases h with | head => rfl | tail _ h => ?_)); exact nomatch h

/-- Operations: the noise added, the index of the largest score, spread over the columns. -/
abbrev argmaxOps : List (HloOp τ sig (Elt F)) :=
  [ StableHlo.binary main_v105 main_v104 main_v106 (addf : (⟨S16384x8, .f32⟩ : BufTy).Contents (Elt F) → (⟨S16384x8, .f32⟩ : BufTy).Contents (Elt F) → (⟨S16384x8, .f32⟩ : BufTy).Contents (Elt F)),
    StableHlo.nullary main_call3_v0 ((iotaInDim S16384x8 32 1) : (⟨S16384x8, .i32⟩ : BufTy).Contents (Elt F)),
    StableHlo.nullary main_call3_cst ((constant S_ .f32 0xFF800000#32) : (⟨S_, .f32⟩ : BufTy).Contents (Elt F)),
    StableHlo.nullary main_call3_c ((constantI S_ 32 0#32) : (⟨S_, .i32⟩ : BufTy).Contents (Elt F)),
    StableHlo.quaternary main_v106 main_call3_v0 main_call3_cst main_call3_c main_call3_v1_0 ((fun x y u v j => (Host.argReduce reducer_argmax_f32_i32 x y u v reducesTo_S16384x8_S16384_d1 h_S_ j).1) : (⟨S16384x8, .f32⟩ : BufTy).Contents (Elt F) → (⟨S16384x8, .i32⟩ : BufTy).Contents (Elt F) → (⟨S_, .f32⟩ : BufTy).Contents (Elt F) → (⟨S_, .i32⟩ : BufTy).Contents (Elt F) → (⟨S16384, .f32⟩ : BufTy).Contents (Elt F)),
    StableHlo.quaternary main_v106 main_call3_v0 main_call3_cst main_call3_c main_v107 ((fun x y u v j => (Host.argReduce reducer_argmax_f32_i32 x y u v reducesTo_S16384x8_S16384_d1 h_S_ j).2) : (⟨S16384x8, .f32⟩ : BufTy).Contents (Elt F) → (⟨S16384x8, .i32⟩ : BufTy).Contents (Elt F) → (⟨S_, .f32⟩ : BufTy).Contents (Elt F) → (⟨S_, .i32⟩ : BufTy).Contents (Elt F) → (⟨S16384, .i32⟩ : BufTy).Contents (Elt F)),
    StableHlo.unary main_v107 main_v108 (broadcastInDim S16384x1x1 ![0] bcast_S16384_S16384x1x1_0 : (⟨S16384, .i32⟩ : BufTy).Contents (Elt F) → (⟨S16384x1x1, .i32⟩ : BufTy).Contents (Elt F)),
    StableHlo.unary main_v108 main_v109 (broadcastInDim S16384x1x32 ![0, 1, 2] bcast_S16384x1x1_S16384x1x32_0_1_2 : (⟨S16384x1x1, .i32⟩ : BufTy).Contents (Elt F) → (⟨S16384x1x32, .i32⟩ : BufTy).Contents (Elt F)) ]

/-- What they write. -/
abbrev argmaxW : List (Ref sig .tc) :=
  [main_v106, main_call3_v0, main_call3_cst, main_call3_c, main_call3_v1_0, main_v107, main_v108, main_v109]

/-- Any other buffer keeps its contents through them. -/
theorem keep_argmax {r : Ref sig .tc} (h : r ∉ argmaxW) (V : Valuation τ sig (Elt F)) :
    StableHlo.after argmaxOps V (Proc.devRef .tc r) = V (Proc.devRef .tc r) :=
  StableHlo.after_unwritten argmaxW rfl h V

/-- They touch references of the TensorCore only. -/
theorem argmax_sub : (argmaxOps : List (HloOp τ sig (Elt F))).Forall fun op => op.bufs ⊆ StableHlo.tcRefs τ sig :=
  ⟨StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.unary_bufs_sub ..⟩

/-- Each determines its result. -/
theorem argmax_fresh : ∀ op ∈ (argmaxOps : List (HloOp τ sig (Elt F))), op.fresh = ∅ := by
  intro _ h; (repeat (cases h with | head => rfl | tail _ h => ?_)); exact nomatch h

/-- Operations: the row of the first stack at that index. -/
abbrev takeMuOps : List (HloOp τ sig (Elt F)) :=
  [ StableHlo.nullary main_call4_c ((constantI S_ 32 0#32) : (⟨S_, .i32⟩ : BufTy).Contents (Elt F)),
    StableHlo.unary main_call4_c main_call4_v0 ((broadcastInDim S16384x1x32 ![] bcast_S_S16384x1x32) : (⟨S_, .i32⟩ : BufTy).Contents (Elt F) → (⟨S16384x1x32, .i32⟩ : BufTy).Contents (Elt F)),
    StableHlo.binary main_v109 main_call4_v0 main_call4_v1 ((cmpi .slt) : (⟨S16384x1x32, .i32⟩ : BufTy).Contents (Elt F) → (⟨S16384x1x32, .i32⟩ : BufTy).Contents (Elt F) → (⟨S16384x1x32, .i1⟩ : BufTy).Contents (Elt F)),
    StableHlo.nullary main_call4_c_0 ((constantI S_ 32 8#32) : (⟨S_, .i32⟩ : BufTy).Contents (Elt F)),
    StableHlo.unary main_call4_c_0 main_call4_v2 ((broadcastInDim S16384x1x32 ![] bcast_S_S16384x1x32) : (⟨S_, .i32⟩ : BufTy).Contents (Elt F) → (⟨S16384x1x32, .i32⟩ : BufTy).Contents (Elt F)),
    StableHlo.binary main_v109 main_call4_v2 main_call4_v3 (addi : (⟨S16384x1x32, .i32⟩ : BufTy).Contents (Elt F) → (⟨S16384x1x32, .i32⟩ : BufTy).Contents (Elt F) → (⟨S16384x1x32, .i32⟩ : BufTy).Contents (Elt F)),
    StableHlo.ternary main_call4_v1 main_call4_v3 main_v109 main_call4_v4 (select : (⟨S16384x1x32, .i1⟩ : BufTy).Contents (Elt F) → (⟨S16384x1x32, .i32⟩ : BufTy).Contents (Elt F) → (⟨S16384x1x32, .i32⟩ : BufTy).Contents (Elt F) → (⟨S16384x1x32, .i32⟩ : BufTy).Contents (Elt F)),
    StableHlo.reshape main_call4_v4 main_call4_v5 (rfl : (.i32 : EltTy) = .i32) shapeCasts_S16384x1x32_S16384x1x32x1,
    StableHlo.nullary main_call4_c_1 ((constantI S1 32 7#32) : (⟨S1, .i32⟩ : BufTy).Contents (Elt F)),
    StableHlo.nullary main_call4_c_2 ((constantI S_ 32 0#32) : (⟨S_, .i32⟩ : BufTy).Contents (Elt F)),
    StableHlo.unary main_call4_c_2 main_call4_v6 ((broadcastInDim S16384x1x32x1 ![] bcast_S_S16384x1x32x1) : (⟨S_, .i32⟩ : BufTy).Contents (Elt F) → (⟨S16384x1x32x1, .i32⟩ : BufTy).Contents (Elt F)),
    StableHlo.binary main_call4_v5 main_call4_v6 main_call4_v7 ((cmpi .sge) : (⟨S16384x1x32x1, .i32⟩ : BufTy).Contents (Elt F) → (⟨S16384x1x32x1, .i32⟩ : BufTy).Contents (Elt F) → (⟨S16384x1x32x1, .i1⟩ : BufTy).Contents (Elt F)),
    StableHlo.unary main_call4_c_1 main_call4_v8 ((broadcastInDim S1x1x1x1 ![3] bcast_S1_S1x1x1x1_3) : (⟨S1, .i32⟩ : BufTy).Contents (Elt F) → (⟨S1x1x1x1, .i32⟩ : BufTy).Contents (Elt F)),
    StableHlo.unary main_call4_v8 main_call4_v9 ((broadcastInDim S16384x1x32x1 ![0, 1, 2, 3] bcast_S1x1x1x1_S16384x1x32x1_0_1_2_3) : (⟨S1x1x1x1, .i32⟩ : BufTy).Contents (Elt F) → (⟨S16384x1x32x1, .i32⟩ : BufTy).Contents (Elt F)),
    StableHlo.binary main_call4_v5 main_call4_v9 main_call4_v10 ((cmpi .sle) : (⟨S16384x1x32x1, .i32⟩ : BufTy).Contents (Elt F) → (⟨S16384x1x32x1, .i32⟩ : BufTy).Contents (Elt F) → (⟨S16384x1x32x1, .i1⟩ : BufTy).Contents (Elt F)),
    StableHlo.binary main_call4_v7 main_call4_v10 main_call4_v11 (andi : (⟨S16384x1x32x1, .i1⟩ : BufTy).Contents (Elt F) → (⟨S16384x1x32x1, .i1⟩ : BufTy).Contents (Elt F) → (⟨S16384x1x32x1, .i1⟩ : BufTy).Contents (Elt F)),
    StableHlo.nullary main_call4_c_3 ((constantI S_ 1 1#1) : (⟨S_, .i1⟩ : BufTy).Contents (Elt F)),
    StableHlo.binary main_call4_v11 main_call4_c_3 main_call4_v12 ((fun x v => Host.reduce IntOp.andi x v reducesTo_S16384x1x32x1_S16384x1x32_d3 h_S_) : (⟨S16384x1x32x1, .i1⟩ : BufTy).Contents (Elt F) → (⟨S_, .i1⟩ : BufTy).Contents (Elt F) → (⟨S16384x1x32, .i1⟩ : BufTy).Contents (Elt F)),
    StableHlo.binary main_v60 main_call4_v5 main_call4_v13 ((fun x i => Host.gather gather_S16384x8x32_S16384x1x32x1_S16384x1x32_n_1_02_02_1_3_111 x i) : (⟨S16384x8x32, .f32⟩ : BufTy).Contents (Elt F) → (⟨S16384x1x32x1, .i32⟩ : BufTy).Contents (Elt F) → (⟨S16384x1x32, .f32⟩ : BufTy).Contents (Elt F)),
    StableHlo.nullary main_call4_cst ((constant S_ .f32 0x7FC00000#32) : (⟨S_, .f32⟩ : BufTy).Contents (Elt F)),
    StableHlo.unary main_call4_cst main_call4_v14 ((broadcastInDim S16384x1x32 ![] bcast_S_S16384x1x32) : (⟨S_, .f32⟩ : BufTy).Contents (Elt F) → (⟨S16384x1x32, .f32⟩ : BufTy).Contents (Elt F)),
    StableHlo.ternary main_call4_v12 main_call4_v13 main_call4_v14 main_v110 (select : (⟨S16384x1x32, .i1⟩ : BufTy).Contents (Elt F) → (⟨S16384x1x32, .f32⟩ : BufTy).Contents (Elt F) → (⟨S16384x1x32, .f32⟩ : BufTy).Contents (Elt F) → (⟨S16384x1x32, .f32⟩ : BufTy).Contents (Elt F)),
    StableHlo.reshape main_v110 main_v111 (rfl : (.f32 : EltTy) = .f32) shapeCasts_S16384x1x32_S16384x32 ]

/-- What they write. -/
abbrev takeMuW : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v110, main_v111]

/-- Any other buffer keeps its contents through them. -/
theorem keep_takeMu {r : Ref sig .tc} (h : r ∉ takeMuW) (V : Valuation τ sig (Elt F)) :
    StableHlo.after takeMuOps V (Proc.devRef .tc r) = V (Proc.devRef .tc r) :=
  StableHlo.after_unwritten takeMuW rfl h V

/-- They touch references of the TensorCore only. -/
theorem takeMu_sub : (takeMuOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub ..⟩

/-- Each determines its result. -/
theorem takeMu_fresh : ∀ op ∈ (takeMuOps : List (HloOp τ sig (Elt F))), op.fresh = ∅ := by
  intro _ h; (repeat (cases h with | head => rfl | tail _ h => ?_)); exact nomatch h

/-- Operations: the row of the deviations at that index. -/
abbrev takeStdOps : List (HloOp τ sig (Elt F)) :=
  [ StableHlo.nullary main_call5_c ((constantI S_ 32 0#32) : (⟨S_, .i32⟩ : BufTy).Contents (Elt F)),
    StableHlo.unary main_call5_c main_call5_v0 ((broadcastInDim S16384x1x32 ![] bcast_S_S16384x1x32) : (⟨S_, .i32⟩ : BufTy).Contents (Elt F) → (⟨S16384x1x32, .i32⟩ : BufTy).Contents (Elt F)),
    StableHlo.binary main_v109 main_call5_v0 main_call5_v1 ((cmpi .slt) : (⟨S16384x1x32, .i32⟩ : BufTy).Contents (Elt F) → (⟨S16384x1x32, .i32⟩ : BufTy).Contents (Elt F) → (⟨S16384x1x32, .i1⟩ : BufTy).Contents (Elt F)),
    StableHlo.nullary main_call5_c_0 ((constantI S_ 32 8#32) : (⟨S_, .i32⟩ : BufTy).Contents (Elt F)),
    StableHlo.unary main_call5_c_0 main_call5_v2 ((broadcastInDim S16384x1x32 ![] bcast_S_S16384x1x32) : (⟨S_, .i32⟩ : BufTy).Contents (Elt F) → (⟨S16384x1x32, .i32⟩ : BufTy).Contents (Elt F)),
    StableHlo.binary main_v109 main_call5_v2 main_call5_v3 (addi : (⟨S16384x1x32, .i32⟩ : BufTy).Contents (Elt F) → (⟨S16384x1x32, .i32⟩ : BufTy).Contents (Elt F) → (⟨S16384x1x32, .i32⟩ : BufTy).Contents (Elt F)),
    StableHlo.ternary main_call5_v1 main_call5_v3 main_v109 main_call5_v4 (select : (⟨S16384x1x32, .i1⟩ : BufTy).Contents (Elt F) → (⟨S16384x1x32, .i32⟩ : BufTy).Contents (Elt F) → (⟨S16384x1x32, .i32⟩ : BufTy).Contents (Elt F) → (⟨S16384x1x32, .i32⟩ : BufTy).Contents (Elt F)),
    StableHlo.reshape main_call5_v4 main_call5_v5 (rfl : (.i32 : EltTy) = .i32) shapeCasts_S16384x1x32_S16384x1x32x1,
    StableHlo.nullary main_call5_c_1 ((constantI S1 32 7#32) : (⟨S1, .i32⟩ : BufTy).Contents (Elt F)),
    StableHlo.nullary main_call5_c_2 ((constantI S_ 32 0#32) : (⟨S_, .i32⟩ : BufTy).Contents (Elt F)),
    StableHlo.unary main_call5_c_2 main_call5_v6 ((broadcastInDim S16384x1x32x1 ![] bcast_S_S16384x1x32x1) : (⟨S_, .i32⟩ : BufTy).Contents (Elt F) → (⟨S16384x1x32x1, .i32⟩ : BufTy).Contents (Elt F)),
    StableHlo.binary main_call5_v5 main_call5_v6 main_call5_v7 ((cmpi .sge) : (⟨S16384x1x32x1, .i32⟩ : BufTy).Contents (Elt F) → (⟨S16384x1x32x1, .i32⟩ : BufTy).Contents (Elt F) → (⟨S16384x1x32x1, .i1⟩ : BufTy).Contents (Elt F)),
    StableHlo.unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    StableHlo.unary main_call5_v8 main_call5_v9 ((broadcastInDim S16384x1x32x1 ![0, 1, 2, 3] bcast_S1x1x1x1_S16384x1x32x1_0_1_2_3) : (⟨S1x1x1x1, .i32⟩ : BufTy).Contents (Elt F) → (⟨S16384x1x32x1, .i32⟩ : BufTy).Contents (Elt F)),
    StableHlo.binary main_call5_v5 main_call5_v9 main_call5_v10 ((cmpi .sle) : (⟨S16384x1x32x1, .i32⟩ : BufTy).Contents (Elt F) → (⟨S16384x1x32x1, .i32⟩ : BufTy).Contents (Elt F) → (⟨S16384x1x32x1, .i1⟩ : BufTy).Contents (Elt F)),
    StableHlo.binary main_call5_v7 main_call5_v10 main_call5_v11 (andi : (⟨S16384x1x32x1, .i1⟩ : BufTy).Contents (Elt F) → (⟨S16384x1x32x1, .i1⟩ : BufTy).Contents (Elt F) → (⟨S16384x1x32x1, .i1⟩ : BufTy).Contents (Elt F)),
    StableHlo.nullary main_call5_c_3 ((constantI S_ 1 1#1) : (⟨S_, .i1⟩ : BufTy).Contents (Elt F)),
    StableHlo.binary main_call5_v11 main_call5_c_3 main_call5_v12 ((fun x v => Host.reduce IntOp.andi x v reducesTo_S16384x1x32x1_S16384x1x32_d3 h_S_) : (⟨S16384x1x32x1, .i1⟩ : BufTy).Contents (Elt F) → (⟨S_, .i1⟩ : BufTy).Contents (Elt F) → (⟨S16384x1x32, .i1⟩ : BufTy).Contents (Elt F)),
    StableHlo.binary main_v83 main_call5_v5 main_call5_v13 ((fun x i => Host.gather gather_S16384x8x32_S16384x1x32x1_S16384x1x32_n_1_02_02_1_3_111 x i) : (⟨S16384x8x32, .f32⟩ : BufTy).Contents (Elt F) → (⟨S16384x1x32x1, .i32⟩ : BufTy).Contents (Elt F) → (⟨S16384x1x32, .f32⟩ : BufTy).Contents (Elt F)),
    StableHlo.nullary main_call5_cst ((constant S_ .f32 0x7FC00000#32) : (⟨S_, .f32⟩ : BufTy).Contents (Elt F)),
    StableHlo.unary main_call5_cst main_call5_v14 ((broadcastInDim S16384x1x32 ![] bcast_S_S16384x1x32) : (⟨S_, .f32⟩ : BufTy).Contents (Elt F) → (⟨S16384x1x32, .f32⟩ : BufTy).Contents (Elt F)),
    StableHlo.ternary main_call5_v12 main_call5_v13 main_call5_v14 main_v112 (select : (⟨S16384x1x32, .i1⟩ : BufTy).Contents (Elt F) → (⟨S16384x1x32, .f32⟩ : BufTy).Contents (Elt F) → (⟨S16384x1x32, .f32⟩ : BufTy).Contents (Elt F) → (⟨S16384x1x32, .f32⟩ : BufTy).Contents (Elt F)),
    StableHlo.reshape main_v112 main_v113 (rfl : (.f32 : EltTy) = .f32) shapeCasts_S16384x1x32_S16384x32 ]

/-- What they write. -/
abbrev takeStdW : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v112, main_v113]

/-- Any other buffer keeps its contents through them. -/
theorem keep_takeStd {r : Ref sig .tc} (h : r ∉ takeStdW) (V : Valuation τ sig (Elt F)) :
    StableHlo.after takeStdOps V (Proc.devRef .tc r) = V (Proc.devRef .tc r) :=
  StableHlo.after_unwritten takeStdW rfl h V

/-- They touch references of the TensorCore only. -/
theorem takeStd_sub : (takeStdOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub ..⟩

/-- Each determines its result. -/
theorem takeStd_fresh : ∀ op ∈ (takeStdOps : List (HloOp τ sig (Elt F))), op.fresh = ∅ := by
  intro _ h; (repeat (cases h with | head => rfl | tail _ h => ?_)); exact nomatch h

/-- The noise's line on the reference's buffers. -/
abbrev noiseOps : List (HloOp τ sig (Elt F)) := (Noise.noise (F := F)).map Lockstep.Step.right

/-- All of them. -/
abbrev ops : List (HloOp τ sig (Elt F)) :=
  muOps ++ (varOps ++ (stdOps ++ (clipOps ++ (logitOps ++ (noiseOps ++ (argmaxOps ++ (takeMuOps ++ takeStdOps)))))))

set_option maxHeartbeats 40000000 in
/-- @main is that straight line. -/
theorem main_eq (c : Dev nD) : main (F := F) c = StableHlo.seq ops := by
  chain_rfl

end Cert.Proof.Ref

end
-- ==== Proof.RefRun.lean ====
/-
  The run of the reference program: every weakly fair execution ends, with every buffer at the fold of the operations'
  results over its launch contents (`run`). The argument buffers are written by no operation (`arg_kept`).
-/
module

public import proofs.«01_k».proof.Proof.RefOps
public import Idealize.ShloMosaic.Lib.Quiescent

@[expose] public section

set_option maxRecDepth 4000

noncomputable section

namespace Cert.Proof.Ref

open Cert.ReferenceIdeal Cert.ReferenceIdeal.Gen
open Idealize.ShloMosaic Idealize.ShloMosaic.TcCoe Idealize.SL.Sem

variable {F : FTy → Type} [FloatOps F]

/-- Nothing is scoped on this signature. -/
theorem scopedRefs_none : (Finset.univ.filter fun b : Ref sig .tc => b.isScoped) = ∅ := by decide +kernel
/-- Nor is any semaphore. -/
theorem scopedSems_none : (Finset.univ.filter fun sm : SemLoc sig => sm.isScoped .tc) = ∅ := by decide +kernel

/-- Every operation touches references of the TensorCore only. -/
theorem ops_sub : (ops : List (HloOp τ sig (Elt F))).Forall fun op => op.bufs ⊆ StableHlo.tcRefs τ sig := by
  simp only [ops, List.forall_append]
  exact ⟨mu_sub, var_sub, std_sub, clip_sub, logit_sub, Lockstep.right_sub _, argmax_sub, takeMu_sub, takeStd_sub⟩

/-- Every operation determines its result. -/
theorem ops_fresh : ∀ op ∈ (ops : List (HloOp τ sig (Elt F))), op.fresh = ∅ := by
  intro op h
  simp only [ops, List.mem_append] at h
  rcases h with h | h | h | h | h | h | h | h | h
  · exact mu_fresh op h
  · exact var_fresh op h
  · exact std_fresh op h
  · exact clip_fresh op h
  · exact logit_fresh op h
  · exact Lockstep.right_fresh _ op h
  · exact argmax_fresh op h
  · exact takeMu_fresh op h
  · exact takeStd_fresh op h

/-- What the noise's line writes. -/
abbrev noiseW : List (Ref sig .tc) := (Noise.noise (F := F)).map fun s => s.dst.2

/-- Any other buffer keeps its contents through the noise's line. -/
theorem keep_noise {r : Ref sig .tc} (h : r ∉ noiseW (F := F)) (V : Valuation τ sig (Elt F)) :
    StableHlo.after noiseOps V (Proc.devRef .tc r) = V (Proc.devRef .tc r) :=
  StableHlo.after_unwritten _ (Lockstep.writes_right _) h V

/-- Two lines one after the other. -/
theorem after_app (l l' : List (HloOp τ sig (Elt F))) (V : Valuation τ sig (Elt F)) :
    StableHlo.after (l ++ l') V = StableHlo.after l' (StableHlo.after l V) := by
  induction l generalizing V with
  | nil => rfl
  | cons op l ih => exact ih _

/-- The program's fold, line by line. -/
theorem after_ops (V : Valuation τ sig (Elt F)) :
    StableHlo.after ops V = StableHlo.after takeStdOps (StableHlo.after takeMuOps (StableHlo.after argmaxOps
      (StableHlo.after noiseOps (StableHlo.after logitOps (StableHlo.after clipOps (StableHlo.after stdOps
        (StableHlo.after varOps (StableHlo.after muOps V)))))))) := by
  simp only [ops, after_app]

/-- Not written by the noise's line: by evaluating the list. -/
theorem noise_keeps {r : Ref sig .tc} (h : decide (r ∈ noiseW (F := F)) = false) : r ∉ noiseW (F := F) :=
  of_decide_eq_false h

/-- The first argument's buffer keeps its contents. -/
theorem arg0_kept (V : Valuation τ sig (Elt F)) :
    StableHlo.after ops V (Proc.devRef .tc main_arg0) = V (Proc.devRef .tc main_arg0) := by
  have hn : decide (main_arg0 ∈ noiseW (F := F)) = false := by chain_rfl
  rw [after_ops, keep_takeStd (by decide), keep_takeMu (by decide), keep_argmax (by decide), keep_noise (noise_keeps hn),
    keep_logit (by decide), keep_clip (by decide), keep_std (by decide), keep_var (by decide), keep_mu (by decide)]
/-- The second argument's does. -/
theorem arg1_kept (V : Valuation τ sig (Elt F)) :
    StableHlo.after ops V (Proc.devRef .tc main_arg1) = V (Proc.devRef .tc main_arg1) := by
  have hn : decide (main_arg1 ∈ noiseW (F := F)) = false := by chain_rfl
  rw [after_ops, keep_takeStd (by decide), keep_takeMu (by decide), keep_argmax (by decide), keep_noise (noise_keeps hn),
    keep_logit (by decide), keep_clip (by decide), keep_std (by decide), keep_var (by decide), keep_mu (by decide)]
/-- The third argument's does. -/
theorem arg2_kept (V : Valuation τ sig (Elt F)) :
    StableHlo.after ops V (Proc.devRef .tc main_arg2) = V (Proc.devRef .tc main_arg2) := by
  have hn : decide (main_arg2 ∈ noiseW (F := F)) = false := by chain_rfl
  rw [after_ops, keep_takeStd (by decide), keep_takeMu (by decide), keep_argmax (by decide), keep_noise (noise_keeps hn),
    keep_logit (by decide), keep_clip (by decide), keep_std (by decide), keep_var (by decide), keep_mu (by decide)]

/-- Every weakly fair execution ends with each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_none scopedSems_none defs main (fun _ => ops) main_eq (fun _ => ops_sub) m ρ
    (fun _ => ops_fresh)

/-- The run, at the results and the arguments, with every counter back at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v111) = StableHlo.after ops (StableHlo.launchContents m c) (Proc.devRef .tc main_v111)
      ∧ r.2.mem ((c.tc : Thread nD τ).loc main_v113) = StableHlo.after ops (StableHlo.launchContents m c) (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => ⟨h c main_v111, h c main_v113, (h c main_arg0).trans (arg0_kept _),
    (h c main_arg1).trans (arg1_kept _), (h c main_arg2).trans (arg2_kept _)⟩, sem_eq_zero_of_no_sems (by decide) r.2⟩)
    (run m ρ)

end Cert.Proof.Ref

end
-- ==== Proof.Row.lean ====
/-
  The mathematics of one row, free of any program: the score of a component, which component is best, and the
  standard deviation made of a raw parameter. Both programs are brought to these.
-/
module

public import Idealize.ShloMosaic.Lib.Pointwise

@[expose] public section

noncomputable section

namespace Cert.Proof.Row

open Idealize.ShloMosaic

/-- The word both programs start a maximum from. -/
abbrev lowest : EReal := Ideal.ofBits .f32 0xFF800000#32

/-- It stands for minus infinity. -/
theorem lowest_eq : lowest = ⊥ := by
  have e : ((0xFF800000#32 : BitVec 32).extractLsb' 23 8).toNat = 2 ^ 8 - 1 := by decide
  have z : ((0xFF800000#32 : BitVec 32).extractLsb' 0 23).toNat = 0 := by decide
  have n : ((0xFF800000#32 : BitVec 32).extractLsb' (8 + 23) 1 == 1#1) = true := by decide
  simp [lowest, Ideal.ofBits, Ideal.ieee, e, z, n]

/-- The largest entry of a row. -/
def top (p : Fin 8 → EReal) : EReal := Finset.fold max lowest p Finset.univ

/-- No entry of a row exceeds the largest. -/
theorem le_top (p : Fin 8 → EReal) (k : Fin 8) : p k ≤ top p :=
  (Finset.le_fold_max (p k)).mpr (Or.inr ⟨k, Finset.mem_univ k, le_rfl⟩)

/-- It is one of the entries as soon as that entry bounds the row. -/
theorem top_eq (p : Fin 8 → EReal) (k : Fin 8) (h : ∀ j, p j ≤ p k) : top p = p k :=
  le_antisymm ((Finset.fold_max_le (p k)).mpr ⟨lowest_eq ▸ bot_le, fun j _ => h j⟩) (le_top p k)

/-- The logarithm of the softmax weight of component `k`, moved off zero. -/
abbrev logWeight (p : Fin 8 → EReal) (k : Fin 8) : EReal :=
  Ideal.log (Ideal.div (Ideal.exp (p k - top p)) (∑ j, Ideal.exp (p j - top p)) + Ideal.ofBits .f32 0x0DA24260#32)

/-- The score of component `k`: that logarithm plus its noise. -/
def score (p g : Fin 8 → EReal) (k : Fin 8) : EReal := logWeight p k + g k

/-- `k` is the first place at which the row is largest. -/
def Best (s : Fin 8 → EReal) (k : Fin 8) : Prop := (∀ j, s j ≤ s k) ∧ ∀ j, j < k → s j < s k

/-- A row has such a place. -/
theorem exists_best (s : Fin 8 → EReal) : ∃ k, Best s k := by
  have h : ∃ k, ∀ j, s j ≤ s k := Finite.exists_max s
  classical
  refine ⟨Fin.find _ h, Fin.find_spec h, fun j hj => ?_⟩
  refine lt_of_le_of_ne (Fin.find_spec h j) fun e => ?_
  exact Fin.find_min h hj fun i => e ▸ Fin.find_spec h i

/-- It has one only. -/
theorem Best.unique {s : Fin 8 → EReal} {k l : Fin 8} (hk : Best s k) (hl : Best s l) : k = l := by
  rcases lt_trichotomy k l with h | h | h
  · exact absurd (hl.2 k h) (not_lt.mpr (hk.1 l))
  · exact h
  · exact absurd (hk.2 l h) (not_lt.mpr (hl.1 k))

/-- The smallest of the places that a row of marks keeps, the others standing for 8: the first marked place. -/
theorem first_marked : ∀ (k : Fin 8) (c : Fin 8 → Bool), c k = true → (∀ j, j < k → c j = false) →
    Finset.fold IntOp.minsi (2147483647#32) (fun j : Fin 8 => if c j = true then BitVec.ofNat 32 ↑j else 8#32) Finset.univ
      = BitVec.ofNat 32 ↑k := by
  decide +kernel

/-- The same, marks given as propositions: the place of the largest entry is the smallest place that reaches it. -/
theorem first_top (s : Fin 8 → EReal) (k : Fin 8) (h : Best s k) :
    Finset.fold IntOp.minsi (2147483647#32) (fun j : Fin 8 => if top s ≤ s j then BitVec.ofNat 32 ↑j else 8#32) Finset.univ
      = BitVec.ofNat 32 ↑k := by
  classical
  rw [top_eq s k h.1]
  have := first_marked k (fun j => decide (s k ≤ s j)) (by simp) (fun j hj => by simpa using h.2 j hj)
  simpa using this

/-- The standard deviation made of a raw parameter: the square root of its softplus, moved off zero, clipped. -/
def dev (v : EReal) : EReal :=
  min (Ideal.ofBits .f32 0x47C35000#32) (max (Ideal.ofBits .f32 0x3727C5AC#32)
    (Ideal.sqrt (max v 0 + Ideal.log1p (Ideal.exp (-(max v (-v)))) + Ideal.ofBits .f32 0x322BCC77#32)))

/-- The linear layer at row `r`, column `c`. -/
def linear (X : (⟨2, ![16384, 128]⟩ : Shape).Idx → EReal) (W : (⟨2, ![128, 520]⟩ : Shape).Idx → EReal)
    (b : (⟨1, ![520]⟩ : Shape).Idx → EReal) (r : Fin 16384) (c : Fin 520) : EReal :=
  ∑ i : Fin 128, X (ix2 r i) * W (ix2 i c) + b (ix1 c)

end Cert.Proof.Row

end
-- ==== Proof.KernelRow.lean ====
/-
  What one block of the kernel computes, row by row: the linear layer on a row, the index of the row's best component,
  and that component's mean and deviation.
-/
module

public import proofs.«01_k».proof.Proof.Gen.KernelIdeal.Value
public import proofs.«01_k».proof.Proof.Row

@[expose] public section

set_option maxRecDepth 16384

noncomputable section

namespace Cert.Proof.KernelRow

open Cert.KernelIdeal Cert.KernelIdeal.Gen Idealize.ShloMosaic
open Cert.Proof.Row

/-- The linear layer at row `r`, column `l`. -/
theorem linear_apply (x : Vec Ideal S4096x128 .f32) (w : Vec Ideal S128x520 .f32) (b : Vec Ideal S1x520 .f32)
    (r : Fin 4096) (l : Fin 520) :
    k0_pay2 x w b (ix2 r l) = ∑ i : Fin 128, x (ix2 r i) * w (ix2 i l) + b (ix2 0 l) := by
  pointwise [k0_pay2]

/-- The word of the chosen component is the word of the best place of the row of scores. -/
theorem index_apply (x : Vec Ideal S4096x128 .f32) (w : Vec Ideal S128x520 .f32) (b : Vec Ideal S1x520 .f32)
    (g : Vec Ideal S4096x8 .f32) (r : Fin 4096) (k : Fin 8)
    (h : Best (score (fun j => k0_pay2 x w b (ix2 r ⟨512 + ↑j, by omega⟩)) fun j => g (ix2 r j)) k) :
    k0_pay3 x w b g (ix2 r 0) = BitVec.ofNat 32 ↑k := by
  rw [← first_top _ k h]
  unfold k0_pay3
  generalize k0_pay2 x w b = o
  pointwise []
  rfl

/-- The lane's number divided by the width of a component, as the program spells it, is the component's word exactly on
    that component's lanes. -/
theorem lane_word : ∀ (l : Fin 256) (k : Fin 8), IntOp.cmpi CmpIPredicate.eq
      (Scalar.select
        (IntOp.andi
          (IntOp.cmpi CmpIPredicate.ne
            (IntOp.subi (BitVec.setWidth 32 (IntOp.cmpi CmpIPredicate.sgt (BitVec.ofNat 32 ↑l) 0#32))
              (BitVec.setWidth 32 (IntOp.cmpi CmpIPredicate.slt (BitVec.ofNat 32 ↑l) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 ↑l) 32#32) 0#32))
        (IntOp.subi (IntOp.divsi ArithUnit.vector (BitVec.ofNat 32 ↑l) 32#32) 1#32)
        (IntOp.divsi ArithUnit.vector (BitVec.ofNat 32 ↑l) 32#32))
      (BitVec.ofNat 32 ↑k) = BitVec.ofBool (decide (l.val / 32 = k.val)) := by
  decide +kernel

/-- The lanes. -/
abbrev lanes : IVec S4096x256 32 := iota .tc S4096x256 32 [1] iota_S4096x256_d1_w32

/-- The mask of the chosen component's lanes. -/
theorem mask_apply (c : IVec S4096x1 32) (r : Fin 4096) (l : Fin 256) (k : Fin 8) (h : c (ix2 r 0) = BitVec.ofNat 32 ↑k) :
    k0_pay7 c lanes 32#32 k0_pay4 k0_pay5 k0_pay6 (ix2 r l) = BitVec.ofBool (decide (l.val / 32 = k.val)) := by
  pointwise [k0_pay7, k0_pay4, k0_pay5, k0_pay6]
  rw [h, lane_word]

/-- Eight values of which all but one are masked, folded: the one. -/
theorem fold_one (m : Fin 8 → BitVec 1) (v : Fin 8 → EReal) (k : Fin 8) (h : ∀ j, m j = BitVec.ofBool (decide (j = k))) :
    Scalar.select (m 0) (v 0) 0 + Scalar.select (m 4) (v 4) 0 + (Scalar.select (m 2) (v 2) 0 + Scalar.select (m 6) (v 6) 0)
      + (Scalar.select (m 1) (v 1) 0 + Scalar.select (m 5) (v 5) 0 + (Scalar.select (m 3) (v 3) 0 + Scalar.select (m 7) (v 7) 0))
      = v k := by
  simp only [h]
  fin_cases k <;> simp [Scalar.select]

/-- Lane `l` of component `k`. -/
abbrev lane (k : Fin 8) (l : Fin 32) : Fin 256 := ⟨32 * k.val + l.val, by omega⟩

/-- It belongs to that component. -/
theorem lane_div (k : Fin 8) (l : Fin 32) : (lane k l).val / 32 = k.val := by simp only [lane]; omega

/-- The folded means: the chosen component's. -/
theorem mean_apply (o : FVec Ideal S4096x520 .f32) (c : IVec S4096x1 32) (r : Fin 4096) (l : Fin 32) (k : Fin 8)
    (h : c (ix2 r 0) = BitVec.ofNat 32 ↑k) :
    k0_pay8 o c lanes 32#32 k0_pay4 k0_pay5 k0_pay6 (ix2 r l) = o (ix2 r ⟨32 * k.val + l.val, by omega⟩) := by
  have hm := fun l => mask_apply c r l k h
  unfold k0_pay8
  generalize k0_pay7 _ _ _ _ _ _ = m at hm ⊢
  pointwise []
  refine Eq.trans ?_ (fold_one (fun j => m (ix2 r (lane j l))) (fun j => o (ix2 r ⟨32 * j.val + l.val, by omega⟩)) k
    fun j => by rw [hm, lane_div]; simp only [Fin.ext_iff])
  congr 2 <;> congr 2 <;> congr 1 <;> congr 2 <;> first | omega | (simp; done) | (simp; omega)

/-- The folded raw deviations: the chosen component's. -/
theorem raw_apply (o : FVec Ideal S4096x520 .f32) (c : IVec S4096x1 32) (r : Fin 4096) (l : Fin 32) (k : Fin 8)
    (h : c (ix2 r 0) = BitVec.ofNat 32 ↑k) :
    k0_pay9 o c lanes 32#32 k0_pay4 k0_pay5 k0_pay6 (ix2 r l) = o (ix2 r ⟨256 + (32 * k.val + l.val), by omega⟩) := by
  have hm := fun l => mask_apply c r l k h
  unfold k0_pay9
  generalize k0_pay7 _ _ _ _ _ _ = m at hm ⊢
  pointwise []
  refine Eq.trans ?_ (fold_one (fun j => m (ix2 r (lane j l))) (fun j => o (ix2 r ⟨256 + (32 * j.val + l.val), by omega⟩)) k
    fun j => by rw [hm, lane_div]; simp only [Fin.ext_iff])
  congr 2 <;> congr 2 <;> congr 1 <;> congr 2 <;> first | omega | (simp; done) | (simp; omega)

/-- The deviation made of the raw one. -/
theorem dev_apply (o : FVec Ideal S4096x520 .f32) (c : IVec S4096x1 32) (l1 : IVec S4096x256 32) (w : BitVec 32) (l2 l3 : IVec S4096x256 32)
    (m : IVec S4096x256 1) (r : Fin 4096) (l : Fin 32) :
    k0_pay1 (k0_pay10 o c l1 w l2 l3 m) (k0_pay12 o c l1 w l2 l3 m) (k0_pay13 o c l1 w l2 l3 m) (k0_pay14 o c l1 w l2 l3 m)
      k0_pay15 (ix2 r l) = dev (k0_pay9 o c l1 w l2 l3 m (ix2 r l)) := by
  unfold k0_pay10 k0_pay12 k0_pay13 k0_pay14 k0_pay11
  generalize k0_pay9 o c l1 w l2 l3 m = v
  pointwise [k0_pay1, k0_pay15, dev]
  rw [if_neg (by simp), zero_sub]
  rfl

end Cert.Proof.KernelRow
-- ==== Proof.KernelOut.lean ====
/-
  The kernel's two result arrays after the run, index by index, over the arrays the kernel is given.
-/
module

public import proofs.«01_k».proof.Proof.KernelRow
public import Idealize.ShloMosaic.Lib.Pipeline.ValueKit

@[expose] public section

set_option maxRecDepth 16384

noncomputable section

namespace Cert.Proof.KernelOut

open Cert.KernelIdeal Cert.KernelIdeal.Gen
open Idealize.ShloMosaic Idealize.ShloMosaic.TcCoe Idealize.SL.Sem
open Cert.Proof.Row Cert.Proof.KernelRow

/-- The linear layer on `n` rows, at row `r`, column `l`, the columns in the kernel's order. -/
def layer {n : Nat} (x : (⟨2, ![n, 128]⟩ : Shape).Idx → EReal) (w : S128x520.Idx → EReal) (b : S1x520.Idx → EReal)
    (r : Fin n) (l : Fin 520) : EReal :=
  ∑ i : Fin 128, x (ix2 r i) * w (ix2 i l) + b (ix2 0 l)

/-- The scores of a row: the logits are the last eight columns. -/
def scores {n : Nat} (x : (⟨2, ![n, 128]⟩ : Shape).Idx → EReal) (w : S128x520.Idx → EReal) (b : S1x520.Idx → EReal)
    (g : (⟨2, ![n, 8]⟩ : Shape).Idx → EReal) (r : Fin n) : Fin 8 → EReal :=
  score (fun j => layer x w b r ⟨512 + j.val, by omega⟩) fun j => g (ix2 r j)

/-- The best component of a row. -/
def pick {n : Nat} (x : (⟨2, ![n, 128]⟩ : Shape).Idx → EReal) (w : S128x520.Idx → EReal) (b : S1x520.Idx → EReal)
    (g : (⟨2, ![n, 8]⟩ : Shape).Idx → EReal) (r : Fin n) : Fin 8 :=
  (exists_best (scores x w b g r)).choose

/-- The component that is picked has the largest score, and is the first that has it. -/
theorem pick_best {n : Nat} (x : (⟨2, ![n, 128]⟩ : Shape).Idx → EReal) (w : S128x520.Idx → EReal) (b : S1x520.Idx → EReal)
    (g : (⟨2, ![n, 8]⟩ : Shape).Idx → EReal) (r : Fin n) : Best (scores x w b g r) (pick x w b g r) :=
  (exists_best (scores x w b g r)).choose_spec

/-- The mean of the best component. -/
def meanOf {n : Nat} (x : (⟨2, ![n, 128]⟩ : Shape).Idx → EReal) (w : S128x520.Idx → EReal) (b : S1x520.Idx → EReal)
    (g : (⟨2, ![n, 8]⟩ : Shape).Idx → EReal) (r : Fin n) (l : Fin 32) : EReal :=
  layer x w b r ⟨32 * (pick x w b g r).val + l.val, by omega⟩

/-- The deviation of the best component. -/
def devOf {n : Nat} (x : (⟨2, ![n, 128]⟩ : Shape).Idx → EReal) (w : S128x520.Idx → EReal) (b : S1x520.Idx → EReal)
    (g : (⟨2, ![n, 8]⟩ : Shape).Idx → EReal) (r : Fin n) (l : Fin 32) : EReal :=
  dev (layer x w b r ⟨256 + (32 * (pick x w b g r).val + l.val), by omega⟩)

section Block
variable (x : Vec Ideal S4096x128 .f32) (w : Vec Ideal S128x520 .f32) (b : Vec Ideal S1x520 .f32) (g : Vec Ideal S4096x8 .f32)

/-- A block's linear layer. -/
theorem layer_block (r : Fin 4096) (l : Fin 520) : k0_pay17 x w b g (ix2 r l) = layer x w b r l := by
  unfold k0_pay17
  frame_out
  exact linear_apply x w b r l

/-- A block's index words. -/
theorem index_block (r : Fin 4096) : k0_pay18 x w b g (ix2 r 0) = BitVec.ofNat 32 (pick x w b g r).val := by
  unfold k0_pay18
  frame_out
  refine index_apply x w b g r _ ?_
  simp only [linear_apply]
  exact pick_best x w b g r

/-- A block of the first result. -/
theorem mean_block (r : Fin 4096) (l : Fin 32) :
    k0_pay8 (k0_pay17 x w b g) (k0_pay18 x w b g) (k0_pay16 x w b g) 32#32 (k0_pay19 x w b g) (k0_pay20 x w b g)
      (k0_pay21 x w b g) (ix2 r l) = meanOf x w b g r l :=
  (mean_apply (k0_pay17 x w b g) (k0_pay18 x w b g) r l _ (index_block x w b g r)).trans (layer_block x w b g r _)

/-- A block of the second result. -/
theorem dev_block (r : Fin 4096) (l : Fin 32) :
    k0_pay1 (k0_pay10 (k0_pay17 x w b g) (k0_pay18 x w b g) (k0_pay16 x w b g) 32#32 (k0_pay19 x w b g) (k0_pay20 x w b g) (k0_pay21 x w b g))
      (k0_pay12 (k0_pay17 x w b g) (k0_pay18 x w b g) (k0_pay16 x w b g) 32#32 (k0_pay19 x w b g) (k0_pay20 x w b g) (k0_pay21 x w b g))
      (k0_pay13 (k0_pay17 x w b g) (k0_pay18 x w b g) (k0_pay16 x w b g) 32#32 (k0_pay19 x w b g) (k0_pay20 x w b g) (k0_pay21 x w b g))
      (k0_pay14 (k0_pay17 x w b g) (k0_pay18 x w b g) (k0_pay16 x w b g) 32#32 (k0_pay19 x w b g) (k0_pay20 x w b g) (k0_pay21 x w b g))
      k0_pay15 (ix2 r l) = devOf x w b g r l :=
  (dev_apply _ _ _ _ _ _ _ r l).trans (congrArg dev
    ((raw_apply (k0_pay17 x w b g) (k0_pay18 x w b g) r l _ (index_block x w b g r)).trans (layer_block x w b g r _)))

end Block

variable (m : (ℓ : Loc nD τ sig) → Buf (Elt Ideal) ℓ)

/-- The windows' blocks at a point: the rows move with the point, the weights and offsets stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0])

/-- Row `r` of point `t`'s block, as a row of the array. -/
abbrev row (t : Fin cfg0.N) (r : Fin 4096) : Fin 16384 :=
  ⟨4096 * t.val + r.val, by have h : t.val < 4 := t.isLt; omega⟩

/-- A point's block of the input rows, of any contents. -/
theorem rows_read (t : Fin cfg0.N) (f : S16384x128.Idx → EReal) (r : Fin 4096) (i : Fin 128) :
    ((cfg0.win 0).blk t).view.read (Elt Ideal) f (ix2 r i) = f (ix2 (row t r) i) := by
  blk_ext [idx t]

/-- A point's block of the noise. -/
theorem noise_read (t : Fin cfg0.N) (f : S16384x8.Idx → EReal) (r : Fin 4096) (i : Fin 8) :
    ((cfg0.win 3).blk t).view.read (Elt Ideal) f (ix2 r i) = f (ix2 (row t r) i) := by
  blk_ext [idx t]

/-- A point's block of the weights is the whole of them. -/
theorem weights_read (t : Fin cfg0.N) (f : S128x520.Idx → EReal) : ((cfg0.win 1).blk t).view.read (Elt Ideal) f = f := by
  funext y
  blk_ext [idx t]

/-- A point's block of the offsets is the whole of them. -/
theorem offsets_read (t : Fin cfg0.N) (f : S1x520.Idx → EReal) : ((cfg0.win 2).blk t).view.read (Elt Ideal) f = f := by
  funext y
  blk_ext [idx t]

/-- Equal rows have equal results. -/
theorem of_rows {n n' : Nat} {x : (⟨2, ![n, 128]⟩ : Shape).Idx → EReal} {x' : (⟨2, ![n', 128]⟩ : Shape).Idx → EReal}
    {g : (⟨2, ![n, 8]⟩ : Shape).Idx → EReal} {g' : (⟨2, ![n', 8]⟩ : Shape).Idx → EReal} {r : Fin n} {r' : Fin n'}
    (w : S128x520.Idx → EReal) (b : S1x520.Idx → EReal) (hx : ∀ i, x (ix2 r i) = x' (ix2 r' i))
    (hg : ∀ i, g (ix2 r i) = g' (ix2 r' i)) :
    meanOf x w b g r = meanOf x' w b g' r' ∧ devOf x w b g r = devOf x' w b g' r' := by
  have hl : layer x w b r = layer x' w b r' := funext fun l => by simp only [layer, hx]
  have hs : scores x w b g r = scores x' w b g' r' := by simp only [scores, hl, hg]
  have hp : pick x w b g r = pick x' w b g' r' := by simp only [pick, hs]
  exact ⟨funext fun l => by simp only [meanOf, hl, hp], funext fun l => by simp only [devOf, hl, hp]⟩

/-- A point's part of the first result. -/
theorem mean_point (t : Fin cfg0.N) {x : Vec Ideal S4096x128 .f32} {w : Vec Ideal S128x520 .f32} {b : Vec Ideal S1x520 .f32}
    {g : Vec Ideal S4096x8 .f32} {A : S16384x128.Idx → EReal} {N : S16384x8.Idx → EReal} {Wt : S128x520.Idx → EReal}
    {B : S1x520.Idx → EReal} (hw : w = Wt) (hb : b = B) (hx : ∀ r i, x (ix2 r i) = A (ix2 (row t r) i))
    (hg : ∀ r i, g (ix2 r i) = N (ix2 (row t r) i)) (y : S4096x32.Idx) (i : S16384x32.Idx) (hi : i = ix2 (row t (y 0)) (y 1)) :
    k0_pay8 (k0_pay17 x w b g) (k0_pay18 x w b g) (k0_pay16 x w b g) 32#32 (k0_pay19 x w b g) (k0_pay20 x w b g)
      (k0_pay21 x w b g) y = meanOf A Wt B N (i 0) (i 1) := by
  subst hw hb hi
  have hy : y = ix2 (y 0) (y 1) := by blk_ext []
  refine (congrArg _ hy).trans ((mean_block x w b g (y 0) (y 1)).trans ?_)
  exact congrFun (of_rows w b (hx (y 0)) (hg (y 0))).1 (y 1)

/-- A point's part of the second result. -/
theorem dev_point (t : Fin cfg0.N) {x : Vec Ideal S4096x128 .f32} {w : Vec Ideal S128x520 .f32} {b : Vec Ideal S1x520 .f32}
    {g : Vec Ideal S4096x8 .f32} {A : S16384x128.Idx → EReal} {N : S16384x8.Idx → EReal} {Wt : S128x520.Idx → EReal}
    {B : S1x520.Idx → EReal} (hw : w = Wt) (hb : b = B) (hx : ∀ r i, x (ix2 r i) = A (ix2 (row t r) i))
    (hg : ∀ r i, g (ix2 r i) = N (ix2 (row t r) i)) (y : S4096x32.Idx) (i : S16384x32.Idx) (hi : i = ix2 (row t (y 0)) (y 1)) :
    k0_pay1 (k0_pay10 (k0_pay17 x w b g) (k0_pay18 x w b g) (k0_pay16 x w b g) 32#32 (k0_pay19 x w b g) (k0_pay20 x w b g) (k0_pay21 x w b g))
      (k0_pay12 (k0_pay17 x w b g) (k0_pay18 x w b g) (k0_pay16 x w b g) 32#32 (k0_pay19 x w b g) (k0_pay20 x w b g) (k0_pay21 x w b g))
      (k0_pay13 (k0_pay17 x w b g) (k0_pay18 x w b g) (k0_pay16 x w b g) 32#32 (k0_pay19 x w b g) (k0_pay20 x w b g) (k0_pay21 x w b g))
      (k0_pay14 (k0_pay17 x w b g) (k0_pay18 x w b g) (k0_pay16 x w b g) 32#32 (k0_pay19 x w b g) (k0_pay20 x w b g) (k0_pay21 x w b g))
      k0_pay15 y = devOf A Wt B N (i 0) (i 1) := by
  subst hw hb hi
  have hy : y = ix2 (y 0) (y 1) := by blk_ext []
  refine (congrArg _ hy).trans ((dev_block x w b g (y 0) (y 1)).trans ?_)
  exact congrFun (of_rows w b (hx (y 0)) (hg (y 0))).2 (y 1)

section Arrays
variable (c : Dev nD) {A : S16384x128.Idx → EReal} {N : S16384x8.Idx → EReal} {Wt : S128x520.Idx → EReal}
  {B : S1x520.Idx → EReal} (hA : V m c main_arg0 = A) (hW : V m c main_v7 = Wt) (hB : V m c main_v16 = B)
  (hN : V m c main_v24 = N)
include hA hW hB hN

/-- The first result's array. -/
theorem mean_array : (dats m 0 c).arrAt 4 cfg0.N = fun i : S16384x32.Idx => meanOf A Wt B N (i 0) (i 1) := by
  refine (dats m 0 c).arrAt_eq_of_covers 4 _ (by decide +kernel) fun t hf y => ?_
  have e0 : ∀ r i, iblk m c 0 t (ix2 r i) = A (ix2 (row t r) i) := by
    subst hA; exact rows_read t _
  have e1 : iblk m c 1 t = Wt := by
    subst hW; exact weights_read t _
  have e2 : iblk m c 2 t = B := by
    subst hB; exact offsets_read t _
  have e3 : ∀ r i, iblk m c 3 t (ix2 r i) = N (ix2 (row t r) i) := by
    subst hN; exact noise_read t _
  clear hA hW hB hN
  blk_simp
  rw [after0_4]
  frame_out
  generalize iblk m c 0 t = x at e0 ⊢
  generalize iblk m c 1 t = w at e1 ⊢
  generalize iblk m c 2 t = b at e2 ⊢
  generalize iblk m c 3 t = g at e3 ⊢
  exact mean_point t e1 e2 e0 e3 y _ (by blk_ext [idx t])

/-- The second result's array. -/
theorem dev_array : (dats m 0 c).arrAt 5 cfg0.N = fun i : S16384x32.Idx => devOf A Wt B N (i 0) (i 1) := by
  refine (dats m 0 c).arrAt_eq_of_covers 5 _ (by decide +kernel) fun t hf y => ?_
  have e0 : ∀ r i, iblk m c 0 t (ix2 r i) = A (ix2 (row t r) i) := by
    subst hA; exact rows_read t _
  have e1 : iblk m c 1 t = Wt := by
    subst hW; exact weights_read t _
  have e2 : iblk m c 2 t = B := by
    subst hB; exact offsets_read t _
  have e3 : ∀ r i, iblk m c 3 t (ix2 r i) = N (ix2 (row t r) i) := by
    subst hN; exact noise_read t _
  clear hA hW hB hN
  blk_simp
  rw [after0_5]
  frame_out
  generalize iblk m c 0 t = x at e0 ⊢
  generalize iblk m c 1 t = w at e1 ⊢
  generalize iblk m c 2 t = b at e2 ⊢
  generalize iblk m c 3 t = g at e3 ⊢
  exact dev_point t e1 e2 e0 e3 y _ (by blk_ext [idx t])

end Arrays

end Cert.Proof.KernelOut

end
-- ==== Proof.Columns.lean ====
/-
  The order of the columns does not matter: the kernel's layer, with its columns brought together by kind, picks the
  component the reference picks, and its mean and deviation are the reference's.
-/
module

public import proofs.«01_k».proof.Proof.KernelOut

@[expose] public section

noncomputable section

namespace Cert.Proof.Columns

open Cert.KernelIdeal Idealize.ShloMosaic
open Cert.Proof.Row Cert.Proof.KernelOut

variable {A : S16384x128.Idx → EReal} {N : S16384x8.Idx → EReal} {Wt : S128x520.Idx → EReal} {B : S1x520.Idx → EReal}
  {Wm : (⟨2, ![128, 520]⟩ : Shape).Idx → EReal} {bm : (⟨1, ![520]⟩ : Shape).Idx → EReal}

/-- One column moved. -/
theorem layer_eq {l l' : Fin 520} (hw : ∀ i, Wt (ix2 i l) = Wm (ix2 i l')) (hb : B (ix2 0 l) = bm (ix1 l')) (r : Fin 16384) :
    layer A Wt B r l = linear A Wm bm r l' := by
  simp only [layer, linear, hw, hb]

/-- The component picked is the best in the reference's order. -/
theorem picked (hw : ∀ (i : Fin 128) (k : Fin 8), Wt (ix2 i ⟨512 + k.val, by omega⟩) = Wm (ix2 i ⟨65 * k.val + 64, by omega⟩))
    (hb : ∀ k : Fin 8, B (ix2 0 ⟨512 + k.val, by omega⟩) = bm (ix1 ⟨65 * k.val + 64, by omega⟩)) (r : Fin 16384) :
    Best (score (fun k => linear A Wm bm r ⟨65 * k.val + 64, by omega⟩) fun k => N (ix2 r k)) (pick A Wt B N r) := by
  have h := pick_best A Wt B N r
  have e : scores A Wt B N r = score (fun k => linear A Wm bm r ⟨65 * k.val + 64, by omega⟩) fun k => N (ix2 r k) := by
    unfold scores
    congr 1
    exact funext fun k => layer_eq (fun i => hw i k) (hb k) r
  exact e ▸ h

end Cert.Proof.Columns

end
-- ==== Proof.KernelIn.lean ====
/-
  The arrays the kernel is given, index by index: the host brings the columns of the weights and of the offsets into the
  order means, deviations, logits, and leaves the rows of the input and the noise as they are.
-/
module

public import proofs.«01_k».proof.Proof.Gen.KernelIdeal.Value
public import Idealize.ShloMosaic.Lib.Pointwise
public import Idealize.ShloMosaic.Lib.StableHlo.ReadAt

@[expose] public section

set_option maxRecDepth 16384

noncomputable section

namespace Cert.Proof.KernelIn

open Cert.KernelIdeal Cert.KernelIdeal.Gen
open Idealize.ShloMosaic Idealize.ShloMosaic.TcCoe Idealize.SL.Sem

variable (V : Valuation τ sig (Elt Ideal))

/-- The reordered weights are three pieces side by side. -/
theorem weight_pieces : StableHlo.after hostOps0 V (Proc.devRef .tc main_v7)
    = concatenate S128x520 1 [⟨S128x256, StableHlo.upto hostOps0 V 7 (Proc.devRef .tc main_v2)⟩,
        ⟨S128x256, StableHlo.upto hostOps0 V 7 (Proc.devRef .tc main_v4)⟩, ⟨S128x8, StableHlo.upto hostOps0 V 7 (Proc.devRef .tc main_v6)⟩]
        concatenates_S128x256_S128x256_S128x8_S128x520_d1 := by
  chain_rfl

/-- The reordered offsets are three pieces end to end, as one row. -/
theorem offset_pieces : StableHlo.after hostOps0 V (Proc.devRef .tc main_v16)
    = shapeCast S1x520 (concatenate S520 0 [⟨S256, StableHlo.upto hostOps0 V 15 (Proc.devRef .tc main_v10)⟩,
        ⟨S256, StableHlo.upto hostOps0 V 15 (Proc.devRef .tc main_v12)⟩, ⟨S8, StableHlo.upto hostOps0 V 15 (Proc.devRef .tc main_v14)⟩]
        concatenates_S256_S256_S8_S520_d0) shapeCasts_S520_S1x520 := by
  chain_rfl

/-- The weights of a component's mean. -/
theorem weight_mean (i : Fin 128) (k : Fin 8) (j : Fin 32) : StableHlo.after hostOps0 V (Proc.devRef .tc main_v7) (ix2 i ⟨32 * k.val + j.val, by omega⟩)
    = V (Proc.devRef .tc main_arg1) (ix2 i ⟨65 * k.val + j.val, by omega⟩) := by
  rw [weight_pieces]
  pointwise []
  rw [dif_pos (by omega)]
  after_reads_at
  congr 3
  omega

set_option maxHeartbeats 1000000 in
/-- The offset of a component's mean. -/
theorem offset_mean (k : Fin 8) (j : Fin 32) : StableHlo.after hostOps0 V (Proc.devRef .tc main_v16) (ix2 0 ⟨32 * k.val + j.val, by omega⟩)
    = V (Proc.devRef .tc main_arg2) (ix1 ⟨65 * k.val + j.val, by omega⟩) := by
  rw [offset_pieces]
  pointwise []
  rw [dif_pos (by omega)]
  after_reads_at
  congr 3
  omega

/-- The weights of a component's raw deviation. -/
theorem weight_raw (i : Fin 128) (k : Fin 8) (j : Fin 32) : StableHlo.after hostOps0 V (Proc.devRef .tc main_v7) (ix2 i ⟨256 + (32 * k.val + j.val), by omega⟩)
    = V (Proc.devRef .tc main_arg1) (ix2 i ⟨65 * k.val + (32 + j.val), by omega⟩) := by
  rw [weight_pieces]
  pointwise []
  rw [dif_pos (by omega)]
  after_reads_at
  congr 3
  omega

set_option maxHeartbeats 1000000 in
/-- The offset of a component's raw deviation. -/
theorem offset_raw (k : Fin 8) (j : Fin 32) : StableHlo.after hostOps0 V (Proc.devRef .tc main_v16) (ix2 0 ⟨256 + (32 * k.val + j.val), by omega⟩)
    = V (Proc.devRef .tc main_arg2) (ix1 ⟨65 * k.val + (32 + j.val), by omega⟩) := by
  rw [offset_pieces]
  pointwise []
  rw [dif_pos (by omega)]
  after_reads_at
  congr 3
  omega

/-- The weights of a component's logit. -/
theorem weight_logit (i : Fin 128) (k : Fin 8) : StableHlo.after hostOps0 V (Proc.devRef .tc main_v7) (ix2 i ⟨512 + k.val, by omega⟩)
    = V (Proc.devRef .tc main_arg1) (ix2 i ⟨65 * k.val + 64, by omega⟩) := by
  rw [weight_pieces]
  pointwise []
  rw [dif_neg (by omega), dif_neg (by omega)]
  after_reads_at
  congr 3
  omega

set_option maxHeartbeats 1000000 in
/-- The offset of a component's logit. -/
theorem offset_logit (k : Fin 8) : StableHlo.after hostOps0 V (Proc.devRef .tc main_v16) (ix2 0 ⟨512 + k.val, by omega⟩)
    = V (Proc.devRef .tc main_arg2) (ix1 ⟨65 * k.val + 64, by omega⟩) := by
  rw [offset_pieces]
  pointwise []
  rw [dif_neg (by omega), dif_neg (by omega)]
  after_reads_at
  congr 3
  omega

end Cert.Proof.KernelIn

end
-- ==== Proof.KernelHost.lean ====
/-
  The arrays the kernel finds: the host's own operations, with the noise's line after them, which writes none of the
  others.
-/
module

public import proofs.«01_k».proof.Proof.KernelIn
public import proofs.«01_k».proof.Proof.Noise

@[expose] public section

set_option maxRecDepth 16384

noncomputable section

namespace Cert.Proof.KernelHost

open Cert.KernelIdeal Cert.KernelIdeal.Gen
open Idealize.ShloMosaic Idealize.ShloMosaic.TcCoe Idealize.SL.Sem

variable {F : FTy → Type} [FloatOps F]

/-- Two lines one after the other. -/
theorem after_app (l l' : List (HloOp τ sig (Elt F))) (U : Valuation τ sig (Elt F)) :
    StableHlo.after (l ++ l') U = StableHlo.after l' (StableHlo.after l U) := by
  induction l generalizing U with
  | nil => rfl
  | cons op l ih => exact ih _

/-- What the noise's line writes. -/
abbrev drawW : List (Ref sig .tc) := (Noise.noise (F := F)).map fun s => s.dst.1

/-- Any other buffer keeps its contents through the noise's line. -/
theorem keep_draw {r : Ref sig .tc} (h : decide (r ∈ drawW (F := F)) = false) (U : Valuation τ sig (Elt F)) :
    StableHlo.after hostOps0_1 U (Proc.devRef .tc r) = U (Proc.devRef .tc r) := by
  rw [← Noise.left_eq]
  exact StableHlo.after_unwritten _ (Lockstep.writes_left _) (of_decide_eq_false h) U

variable (m : (ℓ : Loc nD τ sig) → Buf (Elt F) ℓ) (c : Dev nD)

/-- What a device holds at launch. -/
abbrev start : Valuation τ sig (Elt F) := fun b => m (c, b)

/-- What it holds before the noise is drawn. -/
abbrev ready : Valuation τ sig (Elt F) := StableHlo.after hostOps0 (start m c)

/-- The two lines, one after the other. -/
theorem lines (b : Ref sig .tc) : V m c b = StableHlo.after hostOps0_1 (ready m c) (Proc.devRef .tc b) := by
  show StableHlo.after (List.flatten [hostOps0, hostOps0_1]) (start m c) (Proc.devRef .tc b) = _
  rw [List.flatten_cons, List.flatten_cons, List.flatten_nil, List.append_nil, after_app]

/-- The reordered weights are not touched by the noise. -/
theorem weights_found : V m c main_v7 = ready m c (Proc.devRef .tc main_v7) := by
  have hn : decide (main_v7 ∈ drawW (F := F)) = false := by chain_rfl
  exact (lines m c main_v7).trans (keep_draw hn _)

/-- Nor are the reordered offsets. -/
theorem offsets_found : V m c main_v16 = ready m c (Proc.devRef .tc main_v16) := by
  have hn : decide (main_v16 ∈ drawW (F := F)) = false := by chain_rfl
  exact (lines m c main_v16).trans (keep_draw hn _)

/-- The noise found is the one drawn. -/
theorem noise_found : V m c main_v24 = StableHlo.after hostOps0_1 (ready m c) (Proc.devRef .tc main_v24) :=
  lines m c main_v24

/-- The key: two words, whatever the arguments. -/
theorem key_found (U : Valuation τ sig (Elt F)) : StableHlo.after hostOps0 U (Proc.devRef .tc main_v23)
    = concatenate S2 0 [⟨S1, broadcastInDim S1 ![] bcast_S_S1 (Host.shrui (constantI S_ 32 42#32) (constantI S_ 32 32#32))⟩,
        ⟨S1, broadcastInDim S1 ![] bcast_S_S1 (andi (constantI S_ 32 42#32) (constantI S_ 32 4294967295#32))⟩]
        concatenates_S1_S1_S2_d0 := by
  chain_rfl

end Cert.Proof.KernelHost

end
-- ==== Proof.RefVal.lean ====
/-
  What the reference's arrays hold, index by index, up to the scores: the two stacks of parameters, the deviations, and
  the logarithm of the weights.
-/
module

public import proofs.«01_k».proof.Proof.RefOps
public import proofs.«01_k».proof.Proof.Row
public import Idealize.ShloMosaic.Lib.StableHlo.ReadAt

@[expose] public section

set_option maxRecDepth 16384

noncomputable section

namespace Cert.Proof.Ref

open Cert.ReferenceIdeal Cert.ReferenceIdeal.Gen
open Idealize.ShloMosaic Idealize.ShloMosaic.TcCoe Idealize.SL.Sem
open Cert.Proof.Row

/-- What holds of each of eight places holds of all. -/
theorem forall8 {P : Fin 8 → Prop} (h0 : P 0) (h1 : P 1) (h2 : P 2) (h3 : P 3) (h4 : P 4) (h5 : P 5) (h6 : P 6)
    (h7 : P 7) (k : Fin 8) : P k := by
  fin_cases k <;> assumption

/-- Eight arrays under a new axis of extent 8, read at an index. -/
theorem stack3 {p0 p1 p2 p3 p4 p5 p6 p7 : FVec Ideal S16384x1x32 .f32} {h} {r : Fin 16384} {j : Fin 32} (f : Fin 8 → EReal)
    (h0 : p0 (ix3 r 0 j) = f 0) (h1 : p1 (ix3 r 0 j) = f 1) (h2 : p2 (ix3 r 0 j) = f 2) (h3 : p3 (ix3 r 0 j) = f 3)
    (h4 : p4 (ix3 r 0 j) = f 4) (h5 : p5 (ix3 r 0 j) = f 5) (h6 : p6 (ix3 r 0 j) = f 6) (h7 : p7 (ix3 r 0 j) = f 7)
    (k : Fin 8) :
    concatenate S16384x8x32 1 [⟨S16384x1x32, p0⟩, ⟨S16384x1x32, p1⟩, ⟨S16384x1x32, p2⟩, ⟨S16384x1x32, p3⟩,
      ⟨S16384x1x32, p4⟩, ⟨S16384x1x32, p5⟩, ⟨S16384x1x32, p6⟩, ⟨S16384x1x32, p7⟩] h (ix3 r k j) = f k := by
  revert k
  refine forall8 (.trans ?_ h0) (.trans ?_ h1) (.trans ?_ h2) (.trans ?_ h3) (.trans ?_ h4) (.trans ?_ h5) (.trans ?_ h6)
    (.trans ?_ h7) <;> pointwise []

/-- Eight columns side by side, read at an index. -/
theorem stack2 {p0 p1 p2 p3 p4 p5 p6 p7 : FVec Ideal S16384x1 .f32} {h} {r : Fin 16384} (f : Fin 8 → EReal)
    (h0 : p0 (ix2 r 0) = f 0) (h1 : p1 (ix2 r 0) = f 1) (h2 : p2 (ix2 r 0) = f 2) (h3 : p3 (ix2 r 0) = f 3)
    (h4 : p4 (ix2 r 0) = f 4) (h5 : p5 (ix2 r 0) = f 5) (h6 : p6 (ix2 r 0) = f 6) (h7 : p7 (ix2 r 0) = f 7)
    (k : Fin 8) :
    concatenate S16384x8 1 [⟨S16384x1, p0⟩, ⟨S16384x1, p1⟩, ⟨S16384x1, p2⟩, ⟨S16384x1, p3⟩,
      ⟨S16384x1, p4⟩, ⟨S16384x1, p5⟩, ⟨S16384x1, p6⟩, ⟨S16384x1, p7⟩] h (ix2 r k) = f k := by
  revert k
  refine forall8 (.trans ?_ h0) (.trans ?_ h1) (.trans ?_ h2) (.trans ?_ h3) (.trans ?_ h4) (.trans ?_ h5) (.trans ?_ h6)
    (.trans ?_ h7) <;> pointwise []

variable (V : Valuation τ sig (Elt Ideal))

/-- The linear layer on the arguments that `V` holds. -/
abbrev lin (r : Fin 16384) (c : Fin 520) : EReal := linear (V (Proc.devRef .tc main_arg0)) (V (Proc.devRef .tc main_arg1)) (V (Proc.devRef .tc main_arg2)) r c

/-- The stack of means is the stack of its eight pieces. -/
theorem mean_pieces : StableHlo.after muOps V (Proc.devRef .tc main_v60)
    = concatenate S16384x8x32 1 [⟨S16384x1x32, StableHlo.upto muOps V 60 (Proc.devRef .tc main_v52)⟩,
        ⟨S16384x1x32, StableHlo.upto muOps V 60 (Proc.devRef .tc main_v53)⟩, ⟨S16384x1x32, StableHlo.upto muOps V 60 (Proc.devRef .tc main_v54)⟩,
        ⟨S16384x1x32, StableHlo.upto muOps V 60 (Proc.devRef .tc main_v55)⟩, ⟨S16384x1x32, StableHlo.upto muOps V 60 (Proc.devRef .tc main_v56)⟩,
        ⟨S16384x1x32, StableHlo.upto muOps V 60 (Proc.devRef .tc main_v57)⟩, ⟨S16384x1x32, StableHlo.upto muOps V 60 (Proc.devRef .tc main_v58)⟩,
        ⟨S16384x1x32, StableHlo.upto muOps V 60 (Proc.devRef .tc main_v59)⟩] concatenates_S16384x1x32_S16384x1x32_S16384x1x32_S16384x1x32_S16384x1x32_S16384x1x32_S16384x1x32_S16384x1x32_S16384x8x32_d1 := by
  chain_rfl

/-- The mean of component `k`, coordinate `j`, is column `65 k + j` of the linear layer. -/
theorem mean_at (r : Fin 16384) (k : Fin 8) (j : Fin 32) :
    StableHlo.after muOps V (Proc.devRef .tc main_v60) (ix3 r k j) = lin V r ⟨65 * k.val + j.val, by omega⟩ := by
  rw [mean_pieces]
  refine stack3 (fun k => lin V r ⟨65 * k.val + j.val, by omega⟩) ?_ ?_ ?_ ?_ ?_ ?_ ?_ ?_ k
  all_goals after_reads_at
  all_goals simp [linear]

/-- The stack of raw deviations is the stack of its eight pieces. -/
theorem raw_pieces : StableHlo.after varOps V (Proc.devRef .tc main_v69)
    = concatenate S16384x8x32 1 [⟨S16384x1x32, StableHlo.upto varOps V 8 (Proc.devRef .tc main_v61)⟩,
        ⟨S16384x1x32, StableHlo.upto varOps V 8 (Proc.devRef .tc main_v62)⟩, ⟨S16384x1x32, StableHlo.upto varOps V 8 (Proc.devRef .tc main_v63)⟩,
        ⟨S16384x1x32, StableHlo.upto varOps V 8 (Proc.devRef .tc main_v64)⟩, ⟨S16384x1x32, StableHlo.upto varOps V 8 (Proc.devRef .tc main_v65)⟩,
        ⟨S16384x1x32, StableHlo.upto varOps V 8 (Proc.devRef .tc main_v66)⟩, ⟨S16384x1x32, StableHlo.upto varOps V 8 (Proc.devRef .tc main_v67)⟩,
        ⟨S16384x1x32, StableHlo.upto varOps V 8 (Proc.devRef .tc main_v68)⟩] concatenates_S16384x1x32_S16384x1x32_S16384x1x32_S16384x1x32_S16384x1x32_S16384x1x32_S16384x1x32_S16384x1x32_S16384x8x32_d1 := by
  chain_rfl

/-- The raw deviation of component `k`, coordinate `j`, is column `65 k + 32 + j`. -/
theorem raw_at (r : Fin 16384) (k : Fin 8) (j : Fin 32) :
    StableHlo.after varOps (StableHlo.after muOps V) (Proc.devRef .tc main_v69) (ix3 r k j)
      = lin V r ⟨65 * k.val + (32 + j.val), by omega⟩ := by
  rw [raw_pieces]
  refine stack3 (fun k => lin V r ⟨65 * k.val + (32 + j.val), by omega⟩) ?_ ?_ ?_ ?_ ?_ ?_ ?_ ?_ k
  all_goals after_reads_at
  all_goals simp [linear]

/-- The array of logits is its eight columns. -/
theorem logit_pieces : StableHlo.after stdOps V (Proc.devRef .tc main_v82)
    = concatenate S16384x8 1 [⟨S16384x1, StableHlo.upto stdOps V 26 (Proc.devRef .tc main_v74)⟩,
        ⟨S16384x1, StableHlo.upto stdOps V 26 (Proc.devRef .tc main_v75)⟩, ⟨S16384x1, StableHlo.upto stdOps V 26 (Proc.devRef .tc main_v76)⟩,
        ⟨S16384x1, StableHlo.upto stdOps V 26 (Proc.devRef .tc main_v77)⟩, ⟨S16384x1, StableHlo.upto stdOps V 26 (Proc.devRef .tc main_v78)⟩,
        ⟨S16384x1, StableHlo.upto stdOps V 26 (Proc.devRef .tc main_v79)⟩, ⟨S16384x1, StableHlo.upto stdOps V 26 (Proc.devRef .tc main_v80)⟩,
        ⟨S16384x1, StableHlo.upto stdOps V 26 (Proc.devRef .tc main_v81)⟩] concatenates_S16384x1_S16384x1_S16384x1_S16384x1_S16384x1_S16384x1_S16384x1_S16384x1_S16384x8_d1 := by
  chain_rfl

/-- The logit of component `k` is column `65 k + 64`. -/
theorem logit_at (r : Fin 16384) (k : Fin 8) :
    StableHlo.after stdOps (StableHlo.after varOps (StableHlo.after muOps V)) (Proc.devRef .tc main_v82) (ix2 r k)
      = lin V r ⟨65 * k.val + 64, by omega⟩ := by
  rw [logit_pieces]
  refine stack2 (fun k => lin V r ⟨65 * k.val + 64, by omega⟩) ?_ ?_ ?_ ?_ ?_ ?_ ?_ ?_ k
  all_goals after_reads_at
  all_goals simp [linear]

/-- The clipped deviation of a raw one. -/
theorem dev_at (i : S16384x8x32.Idx) :
    StableHlo.after clipOps (StableHlo.after stdOps V) (Proc.devRef .tc main_v83) i = dev (V (Proc.devRef .tc main_v69) i) := by
  after_reads_at
  rw [if_neg (by simp)]
  rfl

/-- The logarithm of the weights, from the logits. -/
theorem weight_at (r : Fin 16384) (p : Fin 8 → EReal) (h : ∀ j, V (Proc.devRef .tc main_v82) (ix2 r j) = p j) (k : Fin 8) :
    StableHlo.after logitOps V (Proc.devRef .tc main_v104) (ix2 r k) = logWeight p k := by
  have top_max : max (Ideal.ofBits .f32 0xFF800000#32) (top p) = top p := max_eq_right (by
    rw [show Ideal.ofBits .f32 0xFF800000#32 = ⊥ from lowest_eq]
    exact bot_le)
  have e : StableHlo.after logitOps V (Proc.devRef .tc main_v104) (ix2 r k)
      = Ideal.log (Ideal.div (Ideal.exp (p k - max (Ideal.ofBits .f32 0xFF800000#32) (top p)))
          (∑ j, Ideal.exp (p j - max (Ideal.ofBits .f32 0xFF800000#32) (top p))) + Ideal.ofBits .f32 0x0DA24260#32) := by
    after_reads_at
    simp only [h]
    rfl
  rw [e, top_max]

end Cert.Proof.Ref

end
-- ==== Proof.RefPick.lean ====
/-
  The reference's choice, index by index: the place it selects in a row of scores, and what it takes of a stack at that
  place.
-/
module

public import proofs.«01_k».proof.Proof.RefOps
public import proofs.«01_k».proof.Proof.Row
public import Idealize.ShloMosaic.Lib.StableHlo.ReadAt
public import Idealize.ShloMosaic.PureOps.Ideal.Laws

@[expose] public section

set_option maxRecDepth 16384

noncomputable section

namespace Cert.Proof.Ref

open Cert.ReferenceIdeal Cert.ReferenceIdeal.Gen
open Idealize.ShloMosaic Idealize.ShloMosaic.TcCoe Idealize.SL.Sem
open Cert.Proof.Row

/-- The dimension numbers with which a component is taken of a stack. -/
abbrev takeDims : GatherDims S16384x8x32 S16384x1x32x1 S16384x1x32 :=
  gather_S16384x8x32_S16384x1x32x1_S16384x1x32_n_1_02_02_1_3_111

/-- What is taken at `(r, j)`: the component that the index array names there, of row `r`, coordinate `j`. -/
theorem take_apply (x : FVec Ideal S16384x8x32 .f32) (idx : IVec S16384x1x32x1 32) (r : Fin 16384) (j : Fin 32) :
    Host.gather takeDims x idx (ix3 r 0 j) = x (ix3 r ⟨min (idx (ix4 r 0 j 0)).toInt.toNat 7, by omega⟩ j) := by
  unfold Host.gather
  congr 1
  funext a
  refine Fin.ext ?_
  show takeDims.start (ix3 r 0 j) idx a + takeDims.batchCoord (ix3 r 0 j) a + takeDims.offCoord (ix3 r 0 j) a = _
  have hbatch : ∀ b : Fin 3, b ≠ 1 → b ∈ takeDims.operandBatchingDims := by decide
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (hbatch 0 (by decide)),
      GatherDims.offCoord_eq_zero _ _ _ (fun h => ((GatherDims.mem_sKept _ _).mp h).2 (hbatch 0 (by decide)))]
    simp only [Nat.zero_add, Nat.add_zero]
    unfold GatherDims.batchCoord
    rw [dif_pos (hbatch 0 (by decide))]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ takeDims.startIndexMap from List.mem_singleton.mpr rfl)]
    have hsi : takeDims.siIdx (ix3 r 0 j) ⟨List.idxOf (1 : Fin 3) takeDims.startIndexMap,
        List.idxOf_lt_length_iff.2 (List.mem_singleton.mpr rfl)⟩ = ix4 r 0 j 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.start_batching _ _ _ _ (hbatch 2 (by decide)),
      GatherDims.offCoord_eq_zero _ _ _ (fun h => ((GatherDims.mem_sKept _ _).mp h).2 (hbatch 2 (by decide)))]
    simp only [Nat.zero_add, Nat.add_zero]
    unfold GatherDims.batchCoord
    rw [dif_pos (hbatch 2 (by decide))]
    rfl

/-- The word of a component is not negative: wrapping leaves it. -/
theorem wrap_word (k : Fin 8) :
    Scalar.select (IntOp.cmpi .slt (BitVec.ofNat 32 k.val) 0#32) (IntOp.addi (BitVec.ofNat 32 k.val) 8#32)
      (BitVec.ofNat 32 k.val) = BitVec.ofNat 32 k.val := by
  revert k; decide

/-- The word of a component is in range. -/
theorem range_word (k : Fin 8) :
    Finset.fold IntOp.andi (1#1) (fun _ : Fin 1 => IntOp.andi (IntOp.cmpi .sge (BitVec.ofNat 32 k.val) 0#32)
      (IntOp.cmpi .sle (BitVec.ofNat 32 k.val) 7#32)) Finset.univ = 1#1 := by
  revert k; decide

/-- Read signed and clamped, the word of a component is the component. -/
theorem clamp_word (k : Fin 8) : min (BitVec.ofNat 32 k.val).toInt.toNat 7 = k.val := by
  revert k; decide

/-- Taking a component by its word: the index wrapped, checked against the range, and gathered. -/
theorem taken (x : FVec Ideal S16384x8x32 .f32) (w : IVec S16384x1x32 32) (q : EReal) (r : Fin 16384) (j : Fin 32)
    (k : Fin 8) (h : w (ix3 r 0 j) = BitVec.ofNat 32 k.val) :
    Scalar.select
      (Finset.fold IntOp.andi (1#1) (fun _ : Fin 1 => IntOp.andi
        (IntOp.cmpi .sge (Scalar.select (IntOp.cmpi .slt (w (ix3 r 0 j)) 0#32) (IntOp.addi (w (ix3 r 0 j)) 8#32)
          (w (ix3 r 0 j))) 0#32)
        (IntOp.cmpi .sle (Scalar.select (IntOp.cmpi .slt (w (ix3 r 0 j)) 0#32) (IntOp.addi (w (ix3 r 0 j)) 8#32)
          (w (ix3 r 0 j))) 7#32)) Finset.univ)
      (Host.gather takeDims x (fun i => Scalar.select (IntOp.cmpi .slt (w (ix3 (i 0) 0 (i 2))) 0#32)
        (IntOp.addi (w (ix3 (i 0) 0 (i 2))) 8#32) (w (ix3 (i 0) 0 (i 2)))) (ix3 r 0 j)) q
      = x (ix3 r k j) := by
  rw [h, wrap_word, range_word, take_apply]
  have e : (fun i : S16384x1x32x1.Idx => Scalar.select (IntOp.cmpi .slt (w (ix3 (i 0) 0 (i 2))) 0#32)
        (IntOp.addi (w (ix3 (i 0) 0 (i 2))) 8#32) (w (ix3 (i 0) 0 (i 2)))) (ix4 r 0 j 0) = BitVec.ofNat 32 k.val := by
    show Scalar.select (IntOp.cmpi .slt (w (ix3 r 0 j)) 0#32) (IntOp.addi (w (ix3 r 0 j)) 8#32) (w (ix3 r 0 j)) = _
    rw [h, wrap_word]
  show x _ = _
  congr 2
  exact Fin.ext ((congrArg (fun v : BitVec 32 => min v.toInt.toNat 7) e).trans (clamp_word k))

/-- One pair is at least as good as another: a larger value, or the same value at a place no later. -/
def Beats (a b : EReal × BitVec 32) : Prop := b.1 < a.1 ∨ a.1 = b.1 ∧ a.2.toInt ≤ b.2.toInt

/-- A pair is at least as good as itself. -/
theorem Beats.refl (a : EReal × BitVec 32) : Beats a a := Or.inr ⟨rfl, le_rfl⟩

/-- What is as good as a pair is as good as whatever that pair is as good as. -/
theorem Beats.trans {a b c : EReal × BitVec 32} (h : Beats a b) (g : Beats b c) : Beats a c := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

/-- Of two pairs the reference keeps one, and the one it keeps is at least as good as either. -/
theorem keeps (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a, i⟩ := a
  obtain ⟨b, j⟩ := b
  rcases lt_trichotomy a b with h | h | h
  · have e : reducer_argmax_f32_i32 (F := Ideal) (a, i) (b, j) = (b, j) := by
      simp [reducer_argmax_f32_i32, Ideal.cmpf_def, Ideal.cmp, Scalar.select, IntOp.ori, IntOp.andi, h.ne, not_lt.mpr h.le]
    rw [e]
    exact ⟨Or.inr rfl, Or.inl h, Beats.refl _⟩
  · subst h
    rcases lt_or_ge i.toInt j.toInt with g | g
    · have e : reducer_argmax_f32_i32 (F := Ideal) (a, i) (a, j) = (a, i) := by
        simp [reducer_argmax_f32_i32, Ideal.cmpf_def, Ideal.cmp, Scalar.select, IntOp.ori, IntOp.andi, IntOp.cmpi,
          BitVec.slt, g]
      rw [e]
      exact ⟨Or.inl rfl, Beats.refl _, Or.inr ⟨rfl, g.le⟩⟩
    · have e : reducer_argmax_f32_i32 (F := Ideal) (a, i) (a, j) = (a, j) := by
        simp [reducer_argmax_f32_i32, Ideal.cmpf_def, Ideal.cmp, Scalar.select, IntOp.ori, IntOp.andi, IntOp.cmpi,
          BitVec.slt, not_lt.mpr g]
      rw [e]
      exact ⟨Or.inr rfl, Or.inr ⟨rfl, g⟩, Beats.refl _⟩
  · have e : reducer_argmax_f32_i32 (F := Ideal) (a, i) (b, j) = (a, i) := by
      simp [reducer_argmax_f32_i32, Ideal.cmpf_def, Ideal.cmp, Scalar.select, IntOp.ori, IntOp.andi, h, h.ne']
    rw [e]
    exact ⟨Or.inl rfl, Beats.refl _, Or.inl h⟩

/-- Over a list it keeps one that is at least as good as all. -/
theorem keeps_list (L : List (EReal × BitVec 32)) (a : EReal × BitVec 32) :
    L.foldl (reducer_argmax_f32_i32 (F := Ideal)) a ∈ a :: L
      ∧ ∀ p ∈ a :: L, Beats (L.foldl (reducer_argmax_f32_i32 (F := Ideal)) a) p := by
  induction L generalizing a with
  | nil => exact ⟨List.mem_cons_self, fun p hp => by simp at hp; exact hp ▸ Beats.refl _⟩
  | cons b L ih =>
    obtain ⟨hm, hb⟩ := ih (reducer_argmax_f32_i32 (F := Ideal) a b)
    obtain ⟨hk, ha, hb'⟩ := keeps a b
    refine ⟨?_, fun p hp => ?_⟩
    · rcases List.mem_cons.mp hm with e | e
      · rw [List.foldl_cons, e]
        rcases hk with hk | hk <;> rw [hk] <;> simp
      · exact List.mem_cons_of_mem _ (List.mem_cons_of_mem _ e)
    · rw [List.foldl_cons]
      have h0 := hb _ List.mem_cons_self
      rcases List.mem_cons.mp hp with rfl | hp
      · exact h0.trans ha
      rcases List.mem_cons.mp hp with rfl | hp
      · exact h0.trans hb'
      · exact hb p (List.mem_cons_of_mem _ hp)

/-- Words of components are ordered as the components are. -/
theorem word_le (i k : Fin 8) : (BitVec.ofNat 32 i.val).toInt ≤ (BitVec.ofNat 32 k.val).toInt ↔ i ≤ k := by
  revert i k; decide

/-- The indices of one row. -/
theorem row_of_drop (i : S16384x8.Idx) (r : Fin 16384) :
    reducesTo_S16384x8_S16384_d1.drop i = ix1 r ↔ i = ix2 r (i 1) := by
  have hv : (reducesTo_S16384x8_S16384_d1.drop i 0 : Nat) = i 0 :=
    Shape.ReducesTo.drop_apply_val reducesTo_S16384x8_S16384_d1 i 0
  constructor
  · intro h
    funext a
    match a with
    | ⟨0, _⟩ => exact Fin.ext (hv.symm.trans (by rw [h]; rfl))
    | ⟨1, _⟩ => rfl
  · intro h
    funext a
    match a with
    | ⟨0, _⟩ => exact Fin.ext (hv.trans (by rw [h]; rfl))

/-- The reference selects the best place of a row. -/
theorem selects (x : FVec Ideal S16384x8 .f32) (r : Fin 16384) (k : Fin 8) (h : Best (fun i => x (ix2 r i)) k) :
    (Host.argReduce reducer_argmax_f32_i32 x (iotaInDim S16384x8 32 1) (constant S_ FTy.f32 0xFF800000#32)
      (constantI S_ 32 0#32) reducesTo_S16384x8_S16384_d1 h_S_ (ix1 r)).2 = BitVec.ofNat 32 k.val := by
  rw [Ideal.argReduce_eq_reduce2, Host.reduce2_eq_foldl_fiber]
  have member : ∀ p : EReal × BitVec 32,
      p ∈ Host.argReduceFiber x (iotaInDim S16384x8 32 1) reducesTo_S16384x8_S16384_d1 (ix1 r)
        ↔ ∃ i : Fin 8, p = (x (ix2 r i), BitVec.ofNat 32 i.val) := by
    intro p
    simp only [Host.argReduceFiber, List.mem_map, List.mem_filter, List.mem_finRange, true_and, decide_eq_true_eq]
    constructor
    · rintro ⟨n, hn, rfl⟩
      refine ⟨S16384x8.rowMajor.symm n 1, ?_⟩
      rw [(row_of_drop _ r).mp hn]
      rfl
    · rintro ⟨i, rfl⟩
      refine ⟨S16384x8.rowMajor (ix2 r i), ?_, ?_⟩
      · rw [Equiv.symm_apply_apply]
        exact (row_of_drop _ r).mpr rfl
      · rw [Equiv.symm_apply_apply]
        rfl
  obtain ⟨hm, hb⟩ := keeps_list (Host.argReduceFiber x (iotaInDim S16384x8 32 1) reducesTo_S16384x8_S16384_d1 (ix1 r))
    (lowest, 0#32)
  have hk := hb _ (List.mem_cons_of_mem _ ((member _).mpr ⟨k, rfl⟩))
  show (List.foldl _ (lowest, 0#32) _).2 = _
  generalize List.foldl _ _ _ = w at hm hk ⊢
  rcases List.mem_cons.mp hm with rfl | hm
  · rcases hk with hk | ⟨hk, -⟩
    · exact absurd (lt_of_lt_of_eq hk lowest_eq) not_lt_bot
    · have hk : x (ix2 r k) = ⊥ := hk.symm.trans lowest_eq
      have h0 : k = 0 := by
        by_contra hne
        exact absurd (lt_of_lt_of_eq (h.2 0 (Fin.pos_of_ne_zero hne)) hk) not_lt_bot
      rw [h0]
      rfl
  · obtain ⟨i, rfl⟩ := (member w).mp hm
    rcases hk with hk | ⟨hk, hle⟩
    · exact absurd hk (not_lt.mpr (h.1 i))
    · have hle : i ≤ k := (word_le i k).mp hle
      rcases hle.lt_or_eq with hlt | rfl
      · exact absurd (h.2 i hlt) (not_lt.mpr (le_of_eq hk.symm))
      · rfl

variable (V : Valuation τ sig (Elt Ideal))

/-- The index array holds the word of the best place of each row of noise plus weight. -/
theorem argmax_at (r : Fin 16384) (j : Fin 32) (s : Fin 8 → EReal) (k : Fin 8)
    (hs : ∀ i, addf (F := Ideal) (s := S16384x8) (φ := .f32) (V (Proc.devRef .tc main_v105)) (V (Proc.devRef .tc main_v104)) (ix2 r i) = s i)
    (h : Best s k) : StableHlo.after argmaxOps V (Proc.devRef .tc main_v109) (ix3 r 0 j) = BitVec.ofNat 32 k.val := by
  after_reads_at
  exact selects _ r k ((funext hs).symm ▸ h)

/-- What is taken of the stack of means. -/
theorem takeMu_at (r : Fin 16384) (j : Fin 32) (k : Fin 8) (h : V (Proc.devRef .tc main_v109) (ix3 r 0 j) = BitVec.ofNat 32 k.val) :
    StableHlo.after takeMuOps V (Proc.devRef .tc main_v111) (ix2 r j) = V (Proc.devRef .tc main_v60) (ix3 r k j) := by
  after_reads_at
  exact taken _ _ _ r j k h

/-- What is taken of the stack of deviations. -/
theorem takeStd_at (r : Fin 16384) (j : Fin 32) (k : Fin 8) (h : V (Proc.devRef .tc main_v109) (ix3 r 0 j) = BitVec.ofNat 32 k.val) :
    StableHlo.after takeStdOps V (Proc.devRef .tc main_v113) (ix2 r j) = V (Proc.devRef .tc main_v83) (ix3 r k j) := by
  after_reads_at
  exact taken _ _ _ r j k h

end Cert.Proof.Ref

end
-- ==== Proof.RefResult.lean ====
/-
  The reference's two results at an index: the mean and the deviation of the row's best component.
-/
module

public import proofs.«01_k».proof.Proof.RefVal
public import proofs.«01_k».proof.Proof.RefPick
public import proofs.«01_k».proof.Proof.RefRun

@[expose] public section

set_option maxRecDepth 16384

noncomputable section

namespace Cert.Proof.Ref

open Cert.ReferenceIdeal Cert.ReferenceIdeal.Gen
open Idealize.ShloMosaic Idealize.ShloMosaic.TcCoe Idealize.SL.Sem
open Cert.Proof.Row

variable (V : Valuation τ sig (Elt Ideal))

/-- The contents once the weights are computed: what the noise's line starts from. -/
abbrev weighed : Valuation τ sig (Elt Ideal) :=
  StableHlo.after logitOps (StableHlo.after clipOps (StableHlo.after stdOps (StableHlo.after varOps (StableHlo.after muOps V))))

/-- The row of logits. -/
abbrev logits (r : Fin 16384) (k : Fin 8) : EReal := lin V r ⟨65 * k.val + 64, by omega⟩

/-- The weights, as the noise's line finds them. -/
theorem weighed_weight (r : Fin 16384) (k : Fin 8) : weighed V (Proc.devRef .tc main_v104) (ix2 r k) = logWeight (logits V r) k := by
  refine weight_at _ r _ (fun j => ?_) k
  rw [keep_clip (by decide)]
  exact logit_at V r j

/-- The means. -/
theorem weighed_mean (r : Fin 16384) (k : Fin 8) (j : Fin 32) :
    weighed V (Proc.devRef .tc main_v60) (ix3 r k j) = lin V r ⟨65 * k.val + j.val, by omega⟩ := by
  unfold weighed
  rw [keep_logit (by decide), keep_clip (by decide), keep_std (by decide), keep_var (by decide)]
  exact mean_at V r k j

/-- The deviations. -/
theorem weighed_dev (r : Fin 16384) (k : Fin 8) (j : Fin 32) :
    weighed V (Proc.devRef .tc main_v83) (ix3 r k j) = dev (lin V r ⟨65 * k.val + (32 + j.val), by omega⟩) := by
  unfold weighed
  rw [keep_logit (by decide), dev_at, raw_at]

variable (W : Valuation τ sig (Elt Ideal))

/-- The index array, from contents `W` that hold the weights and the noise `g`: the word of the row's best component. -/
theorem index_at (r : Fin 16384) (p g : Fin 8 → EReal) (j : Fin 32) (k : Fin 8)
    (hw : ∀ i, W (Proc.devRef .tc main_v104) (ix2 r i) = logWeight p i) (hg : ∀ i, W (Proc.devRef .tc main_v105) (ix2 r i) = g i) (h : Best (score p g) k) :
    StableHlo.after argmaxOps W (Proc.devRef .tc main_v109) (ix3 r 0 j) = BitVec.ofNat 32 k.val := by
  refine argmax_at W r j _ k (fun i => ?_) h
  have e : addf (F := Ideal) (s := S16384x8) (φ := .f32) (W (Proc.devRef .tc main_v105)) (W (Proc.devRef .tc main_v104)) (ix2 r i) = g i + logWeight p i :=
    congr (congrArg _ (hg i)) (hw i)
  exact e.trans (add_comm _ _)

/-- What is taken of the means. -/
theorem mu_taken (r : Fin 16384) (j : Fin 32) (k : Fin 8)
    (h : StableHlo.after argmaxOps W (Proc.devRef .tc main_v109) (ix3 r 0 j) = BitVec.ofNat 32 k.val) :
    StableHlo.after takeStdOps (StableHlo.after takeMuOps (StableHlo.after argmaxOps W)) (Proc.devRef .tc main_v111) (ix2 r j)
      = W (Proc.devRef .tc main_v60) (ix3 r k j) := by
  rw [keep_takeStd (by decide), takeMu_at _ r j k h, keep_argmax (by decide)]

/-- What is taken of the deviations. -/
theorem std_taken (r : Fin 16384) (j : Fin 32) (k : Fin 8)
    (h : StableHlo.after argmaxOps W (Proc.devRef .tc main_v109) (ix3 r 0 j) = BitVec.ofNat 32 k.val) :
    StableHlo.after takeStdOps (StableHlo.after takeMuOps (StableHlo.after argmaxOps W)) (Proc.devRef .tc main_v113) (ix2 r j)
      = W (Proc.devRef .tc main_v83) (ix3 r k j) := by
  have h' : StableHlo.after takeMuOps (StableHlo.after argmaxOps W) (Proc.devRef .tc main_v109) (ix3 r 0 j) = BitVec.ofNat 32 k.val := by
    rw [keep_takeMu (by decide)]
    exact h
  rw [takeStd_at _ r j k h', keep_takeMu (by decide), keep_argmax (by decide)]

/-- Result 1, from contents `W` that agree with the computed ones on what the noise's line keeps. -/
theorem mu_from (r : Fin 16384) (g : Fin 8 → EReal) (j : Fin 32) (k : Fin 8)
    (h104 : W (Proc.devRef .tc main_v104) = weighed V (Proc.devRef .tc main_v104)) (h60 : W (Proc.devRef .tc main_v60) = weighed V (Proc.devRef .tc main_v60))
    (hg : ∀ i, W (Proc.devRef .tc main_v105) (ix2 r i) = g i) (h : Best (score (logits V r) g) k) :
    StableHlo.after takeStdOps (StableHlo.after takeMuOps (StableHlo.after argmaxOps W)) (Proc.devRef .tc main_v111) (ix2 r j)
      = lin V r ⟨65 * k.val + j.val, by omega⟩ := by
  rw [mu_taken W r j k (index_at W r _ g j k (fun i => by rw [h104]; exact weighed_weight V r i) hg h), h60]
  exact weighed_mean V r k j

/-- Result 2, likewise. -/
theorem std_from (r : Fin 16384) (g : Fin 8 → EReal) (j : Fin 32) (k : Fin 8)
    (h104 : W (Proc.devRef .tc main_v104) = weighed V (Proc.devRef .tc main_v104)) (h83 : W (Proc.devRef .tc main_v83) = weighed V (Proc.devRef .tc main_v83))
    (hg : ∀ i, W (Proc.devRef .tc main_v105) (ix2 r i) = g i) (h : Best (score (logits V r) g) k) :
    StableHlo.after takeStdOps (StableHlo.after takeMuOps (StableHlo.after argmaxOps W)) (Proc.devRef .tc main_v113) (ix2 r j)
      = dev (lin V r ⟨65 * k.val + (32 + j.val), by omega⟩) := by
  rw [std_taken W r j k (index_at W r _ g j k (fun i => by rw [h104]; exact weighed_weight V r i) hg h), h83]
  exact weighed_dev V r k j

/-- Result 1: the mean of the best component, `g` being the row of noise. -/
theorem mu_result (r : Fin 16384) (g : Fin 8 → EReal) (j : Fin 32) (k : Fin 8)
    (hg : ∀ i, StableHlo.after noiseOps (weighed V) (Proc.devRef .tc main_v105) (ix2 r i) = g i) (h : Best (score (logits V r) g) k) :
    StableHlo.after ops V (Proc.devRef .tc main_v111) (ix2 r j) = lin V r ⟨65 * k.val + j.val, by omega⟩ := by
  have n104 : decide (main_v104 ∈ noiseW (F := Ideal)) = false := by chain_rfl
  have n60 : decide (main_v60 ∈ noiseW (F := Ideal)) = false := by chain_rfl
  rw [after_ops]
  exact mu_from V _ r g j k (keep_noise (noise_keeps n104) _) (keep_noise (noise_keeps n60) _) hg h

/-- Result 2: the deviation of the best component. -/
theorem std_result (r : Fin 16384) (g : Fin 8 → EReal) (j : Fin 32) (k : Fin 8)
    (hg : ∀ i, StableHlo.after noiseOps (weighed V) (Proc.devRef .tc main_v105) (ix2 r i) = g i) (h : Best (score (logits V r) g) k) :
    StableHlo.after ops V (Proc.devRef .tc main_v113) (ix2 r j) = dev (lin V r ⟨65 * k.val + (32 + j.val), by omega⟩) := by
  have n104 : decide (main_v104 ∈ noiseW (F := Ideal)) = false := by chain_rfl
  have n83 : decide (main_v83 ∈ noiseW (F := Ideal)) = false := by chain_rfl
  rw [after_ops]
  exact std_from V _ r g j k (keep_noise (noise_keeps n104) _) (keep_noise (noise_keeps n83) _) hg h

end Cert.Proof.Ref

end
-- ==== Proof.Equation.lean ====
/-
  The equation between the two programs, on one device: from launch contents that agree on the arguments the noise is
  the same, the component picked is the same, and so are the two results.
-/
module

public import proofs.«01_k».proof.Proof.Columns
public import proofs.«01_k».proof.Proof.KernelHost
public import proofs.«01_k».proof.Proof.RefResult

@[expose] public section

set_option maxRecDepth 16384

noncomputable section

namespace Cert.Proof.Equation

open Idealize.ShloMosaic Idealize.ShloMosaic.TcCoe Idealize.SL.Sem
open Cert.Proof.Row Cert.Proof.KernelOut

/-- The key the reference draws from: the same two words. -/
theorem key_drawn (W : Valuation ReferenceIdeal.τ ReferenceIdeal.sig (Elt Ideal)) :
    StableHlo.after Ref.logitOps W (Proc.devRef .tc ReferenceIdeal.main_v101)
    = concatenate ReferenceIdeal.S2 0
        [⟨ReferenceIdeal.S1, broadcastInDim ReferenceIdeal.S1 ![] ReferenceIdeal.Gen.bcast_S_S1
          (Host.shrui (constantI ReferenceIdeal.S_ 32 42#32) (constantI ReferenceIdeal.S_ 32 32#32))⟩,
        ⟨ReferenceIdeal.S1, broadcastInDim ReferenceIdeal.S1 ![] ReferenceIdeal.Gen.bcast_S_S1
          (andi (constantI ReferenceIdeal.S_ 32 42#32) (constantI ReferenceIdeal.S_ 32 4294967295#32))⟩]
        ReferenceIdeal.Gen.concatenates_S1_S1_S2_d0 := by
  chain_rfl

/-- The kernel's columns `Wt`, `B` are the columns of `Wm`, `bm` brought together by kind. -/
structure Reordered (Wt : KernelIdeal.S128x520.Idx → EReal) (B : KernelIdeal.S1x520.Idx → EReal)
    (Wm : (⟨2, ![128, 520]⟩ : Shape).Idx → EReal) (bm : (⟨1, ![520]⟩ : Shape).Idx → EReal) : Prop where
  wMean : ∀ (i : Fin 128) (k : Fin 8) (j : Fin 32), Wt (ix2 i ⟨32 * k.val + j.val, by omega⟩) = Wm (ix2 i ⟨65 * k.val + j.val, by omega⟩)
  bMean : ∀ (k : Fin 8) (j : Fin 32), B (ix2 0 ⟨32 * k.val + j.val, by omega⟩) = bm (ix1 ⟨65 * k.val + j.val, by omega⟩)
  wRaw : ∀ (i : Fin 128) (k : Fin 8) (j : Fin 32),
    Wt (ix2 i ⟨256 + (32 * k.val + j.val), by omega⟩) = Wm (ix2 i ⟨65 * k.val + (32 + j.val), by omega⟩)
  bRaw : ∀ (k : Fin 8) (j : Fin 32), B (ix2 0 ⟨256 + (32 * k.val + j.val), by omega⟩) = bm (ix1 ⟨65 * k.val + (32 + j.val), by omega⟩)
  wLogit : ∀ (i : Fin 128) (k : Fin 8), Wt (ix2 i ⟨512 + k.val, by omega⟩) = Wm (ix2 i ⟨65 * k.val + 64, by omega⟩)
  bLogit : ∀ k : Fin 8, B (ix2 0 ⟨512 + k.val, by omega⟩) = bm (ix1 ⟨65 * k.val + 64, by omega⟩)

section
variable (U : Valuation ReferenceIdeal.τ ReferenceIdeal.sig (Elt Ideal)) {A : KernelIdeal.S16384x128.Idx → EReal}
  {N : KernelIdeal.S16384x8.Idx → EReal} {Wt : KernelIdeal.S128x520.Idx → EReal} {B : KernelIdeal.S1x520.Idx → EReal}
  {Wm : (⟨2, ![128, 520]⟩ : Shape).Idx → EReal} {bm : (⟨1, ![520]⟩ : Shape).Idx → EReal}
  (hA : U (Proc.devRef .tc ReferenceIdeal.main_arg0) = A) (hWm : U (Proc.devRef .tc ReferenceIdeal.main_arg1) = Wm)
  (hbm : U (Proc.devRef .tc ReferenceIdeal.main_arg2) = bm) (hr : Reordered Wt B Wm bm)
  (hN : StableHlo.after Ref.noiseOps (Ref.weighed U) (Proc.devRef .tc ReferenceIdeal.main_v105) = N)
include hA hWm hbm hr hN

/-- The reference's component is the kernel's. -/
theorem best (r : Fin 16384) : Best (score (Ref.logits U r) fun k => N (ix2 r k)) (pick A Wt B N r) := by
  subst hA hWm hbm
  exact Columns.picked hr.wLogit hr.bLogit r

/-- Its first result is the kernel's. -/
theorem mu_agrees : StableHlo.after Ref.ops U (Proc.devRef .tc ReferenceIdeal.main_v111)
    = fun i : KernelIdeal.S16384x32.Idx => meanOf A Wt B N (i 0) (i 1) := by
  funext i
  have hi : i = ix2 (i 0) (i 1) := by funext a; match a with | ⟨0, _⟩ => rfl | ⟨1, _⟩ => rfl
  have h := Ref.mu_result U (i 0) _ (i 1) _ (fun k => congrFun hN (ix2 (i 0) k)) (best U hA hWm hbm hr hN (i 0))
  refine (congrArg _ hi).trans (h.trans ?_)
  subst hA hWm hbm
  exact (Columns.layer_eq (fun j => hr.wMean j _ _) (hr.bMean _ _) (i 0)).symm

/-- Its second result is the kernel's. -/
theorem std_agrees : StableHlo.after Ref.ops U (Proc.devRef .tc ReferenceIdeal.main_v113)
    = fun i : KernelIdeal.S16384x32.Idx => devOf A Wt B N (i 0) (i 1) := by
  funext i
  have hi : i = ix2 (i 0) (i 1) := by funext a; match a with | ⟨0, _⟩ => rfl | ⟨1, _⟩ => rfl
  have h := Ref.std_result U (i 0) _ (i 1) _ (fun k => congrFun hN (ix2 (i 0) k)) (best U hA hWm hbm hr hN (i 0))
  refine (congrArg _ hi).trans (h.trans ?_)
  subst hA hWm hbm
  exact congrArg dev (Columns.layer_eq (fun j => hr.wRaw j _ _) (hr.bRaw _ _) (i 0)).symm

end

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- What the reference holds at launch. -/
abbrev start : Valuation ReferenceIdeal.τ ReferenceIdeal.sig (Elt Ideal) := StableHlo.launchContents m' c

/-- The two keys are equal. -/
theorem key_heq : HEq (KernelHost.ready m c (Proc.devRef .tc KernelIdeal.main_v23))
    (Ref.weighed (start m' c) (Proc.devRef .tc ReferenceIdeal.main_v101)) :=
  (heq_of_eq (KernelHost.key_found _)).trans (HEq.trans HEq.rfl (heq_of_eq (key_drawn _).symm))

/-- The two draws are equal. -/
theorem noise_eq (N : KernelIdeal.S16384x8.Idx → EReal) (hN : KernelIdeal.Gen.V m c KernelIdeal.main_v24 = N) :
    StableHlo.after Ref.noiseOps (Ref.weighed (start m' c)) (Proc.devRef .tc ReferenceIdeal.main_v105) = N :=
  (eq_of_heq (((heq_of_eq ((KernelHost.noise_found m c).symm.trans hN)).symm.trans
    (Noise.noise_heq (F := Ideal) _ _ (key_heq m m' c))))).symm

/-- The host's reordering. -/
theorem reordered : Reordered (KernelIdeal.Gen.V m c KernelIdeal.main_v7) (KernelIdeal.Gen.V m c KernelIdeal.main_v16)
    (m ((c : Thread KernelIdeal.nD KernelIdeal.τ).loc KernelIdeal.main_arg1))
    (m ((c : Thread KernelIdeal.nD KernelIdeal.τ).loc KernelIdeal.main_arg2)) := by
  rw [KernelHost.weights_found, KernelHost.offsets_found]
  exact ⟨KernelIn.weight_mean _, KernelIn.offset_mean _, KernelIn.weight_raw _, KernelIn.offset_raw _,
    KernelIn.weight_logit _, KernelIn.offset_logit _⟩

variable (h0 : m' ((c : Thread ReferenceIdeal.nD ReferenceIdeal.τ).loc ReferenceIdeal.main_arg0)
    = m ((c : Thread KernelIdeal.nD KernelIdeal.τ).loc KernelIdeal.main_arg0))
  (h1 : m' ((c : Thread ReferenceIdeal.nD ReferenceIdeal.τ).loc ReferenceIdeal.main_arg1)
    = m ((c : Thread KernelIdeal.nD KernelIdeal.τ).loc KernelIdeal.main_arg1))
  (h2 : m' ((c : Thread ReferenceIdeal.nD ReferenceIdeal.τ).loc ReferenceIdeal.main_arg2)
    = m ((c : Thread KernelIdeal.nD KernelIdeal.τ).loc KernelIdeal.main_arg2))
include h0 h1 h2

/-- The reference's first result is the kernel's first array. -/
theorem mu_equal : StableHlo.after Ref.ops (start m' c) (Proc.devRef .tc ReferenceIdeal.main_v111)
    = (KernelIdeal.Gen.dats m 0 c).arrAt 4 KernelIdeal.cfg0.N := by
  have hr := reordered m c
  have ha := KernelIdeal.Gen.V_main_arg0 m c
  obtain ⟨N, hN⟩ : ∃ N : KernelIdeal.S16384x8.Idx → EReal, KernelIdeal.Gen.V m c KernelIdeal.main_v24 = N := ⟨_, rfl⟩
  obtain ⟨Wt, hW⟩ : ∃ Wt : KernelIdeal.S128x520.Idx → EReal, KernelIdeal.Gen.V m c KernelIdeal.main_v7 = Wt := ⟨_, rfl⟩
  obtain ⟨B, hB⟩ : ∃ B : KernelIdeal.S1x520.Idx → EReal, KernelIdeal.Gen.V m c KernelIdeal.main_v16 = B := ⟨_, rfl⟩
  rw [hW, hB] at hr
  exact (mu_agrees (start m' c) h0 h1 h2 hr (noise_eq m m' c N hN)).trans (mean_array m c ha hW hB hN).symm

/-- The reference's second result is the kernel's second array. -/
theorem std_equal : StableHlo.after Ref.ops (start m' c) (Proc.devRef .tc ReferenceIdeal.main_v113)
    = (KernelIdeal.Gen.dats m 0 c).arrAt 5 KernelIdeal.cfg0.N := by
  have hr := reordered m c
  have ha := KernelIdeal.Gen.V_main_arg0 m c
  obtain ⟨N, hN⟩ : ∃ N : KernelIdeal.S16384x8.Idx → EReal, KernelIdeal.Gen.V m c KernelIdeal.main_v24 = N := ⟨_, rfl⟩
  obtain ⟨Wt, hW⟩ : ∃ Wt : KernelIdeal.S128x520.Idx → EReal, KernelIdeal.Gen.V m c KernelIdeal.main_v7 = Wt := ⟨_, rfl⟩
  obtain ⟨B, hB⟩ : ∃ B : KernelIdeal.S1x520.Idx → EReal, KernelIdeal.Gen.V m c KernelIdeal.main_v16 = B := ⟨_, rfl⟩
  rw [hW, hB] at hr
  exact (std_agrees (start m' c) h0 h1 h2 hr (noise_eq m m' c N hN)).trans (dev_array m c ha hW hB hN).symm

end

end Cert.Proof.Equation

end
-- ==== Proof.lean ====
/-
  The proof of `Cert.Claim`: the three programs run and keep their arguments, the idealization rewrote nothing, and at
  the extended reals kernel and reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- Kernel and reference end with equal results: what the kernel leaves in its two arrays is what the reference holds. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => (Cert.KernelIdeal.Gen.dats m 0 c).arrAt 4 Cert.KernelIdeal.cfg0.N,
    fun c => (Cert.KernelIdeal.Gen.dats m 0 c).arrAt 5 Cert.KernelIdeal.cfg0.N, Cert.KernelIdeal.Value.run_blocks m g, ?_⟩
  refine (θ_run _ _ _).mono (fun r hr c => ?_) (Ref.run_main m' g')
  obtain ⟨hmu, hstd, hargs⟩ := hr.1 c
  obtain ⟨h0, h1, h2⟩ := h c
  exact ⟨hmu.trans (Equation.mu_equal m m' c h0 h1 h2), hstd.trans (Equation.std_equal m m' c h0 h1 h2), hargs⟩

/-- The reference runs and keeps its arguments. -/
theorem reference_frame : Cert.quiescent_ReferenceIdeal (hReferenceIdeal := Cert.ReferenceIdeal.Gen.facts) := by
  intro m g _
  exact (θ_run _ _ _).mono (fun r hr => ⟨fun c => (hr.1 c).2.2, hr.2⟩) (Ref.run_main m g)

/-- All five claims: the three frames, the idealization, and the equality of the results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
